-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x14x14 : Shape := ⟨4, ![128, 512, 14, 14]⟩
abbrev S512x256x4x4 : Shape := ⟨4, ![512, 256, 4, 4]⟩
abbrev S256 : Shape := ⟨1, ![256]⟩
abbrev S256x17x4x4 : Shape := ⟨4, ![256, 17, 4, 4]⟩
abbrev S17 : Shape := ⟨1, ![17]⟩
abbrev S512x4x4x256 : Shape := ⟨4, ![512, 4, 4, 256]⟩
abbrev S512x4096 : Shape := ⟨2, ![512, 4096]⟩
abbrev S256x4x4x17 : Shape := ⟨4, ![256, 4, 4, 17]⟩
abbrev S256x272 : Shape := ⟨2, ![256, 272]⟩
abbrev S1x256 : Shape := ⟨2, ![1, 256]⟩
abbrev S1x17 : Shape := ⟨2, ![1, 17]⟩
abbrev S128x14x14x512 : Shape := ⟨4, ![128, 14, 14, 512]⟩
abbrev S_ : Shape := ⟨0, ![]⟩
abbrev S128x16x16x512 : Shape := ⟨4, ![128, 16, 16, 512]⟩
abbrev S32x16x16x512 : Shape := ⟨4, ![32, 16, 16, 512]⟩
abbrev S32x16x14x14x17 : Shape := ⟨5, ![32, 16, 14, 14, 17]⟩
abbrev S4x16x16x512 : Shape := ⟨4, ![4, 16, 16, 512]⟩
abbrev S4x16x14x14x17 : Shape := ⟨5, ![4, 16, 14, 14, 17]⟩
abbrev S4x4x16x16x256 : Shape := ⟨5, ![4, 4, 16, 16, 256]⟩
abbrev S1024x512 : Shape := ⟨2, ![1024, 512]⟩
abbrev S1024x4096 : Shape := ⟨2, ![1024, 4096]⟩
abbrev S4x16x16x4096 : Shape := ⟨4, ![4, 16, 16, 4096]⟩
abbrev S4x14x14x256 : Shape := ⟨4, ![4, 14, 14, 256]⟩
abbrev S1x1x1x256 : Shape := ⟨4, ![1, 1, 1, 256]⟩
abbrev S4x1x14x14x256 : Shape := ⟨5, ![4, 1, 14, 14, 256]⟩
abbrev S4x1x14x16x256 : Shape := ⟨5, ![4, 1, 14, 16, 256]⟩
abbrev S4096x256 : Shape := ⟨2, ![4096, 256]⟩
abbrev S4096x272 : Shape := ⟨2, ![4096, 272]⟩
abbrev S4x4x16x16x272 : Shape := ⟨5, ![4, 4, 16, 16, 272]⟩
abbrev S4x1x14x14x17 : Shape := ⟨5, ![4, 1, 14, 14, 17]⟩
abbrev S4x14x14x17 : Shape := ⟨4, ![4, 14, 14, 17]⟩
abbrev S1x1x1x17 : Shape := ⟨4, ![1, 1, 1, 17]⟩
abbrev S32x2x2x2x2x14x14x17 : Shape := ⟨8, ![32, 2, 2, 2, 2, 14, 14, 17]⟩
abbrev S32x17x14x2x2x14x2x2 : Shape := ⟨8, ![32, 17, 14, 2, 2, 14, 2, 2]⟩
abbrev S32x17x56x56 : Shape := ⟨4, ![32, 17, 56, 56]⟩
abbrev S128x17x56x56 : Shape := ⟨4, ![128, 17, 56, 56]⟩

abbrev nBuf : Space → Nat
  | .hbm => 39
  | .vmem => 36
  | .smem => 0
  | _ => 0

abbrev bufTy : (tb : Table) → Fin (tcTables nBuf tb) → BufTy
  | .hbm, ⟨0, _⟩ => ⟨S128x512x14x14, .f32⟩
  | .hbm, ⟨1, _⟩ => ⟨S512x256x4x4, .f32⟩
  | .hbm, ⟨2, _⟩ => ⟨S256, .f32⟩
  | .hbm, ⟨3, _⟩ => ⟨S256x17x4x4, .f32⟩
  | .hbm, ⟨4, _⟩ => ⟨S17, .f32⟩
  | .hbm, ⟨5, _⟩ => ⟨S512x4x4x256, .f32⟩
  | .hbm, ⟨6, _⟩ => ⟨S512x4096, .f32⟩
  | .hbm, ⟨7, _⟩ => ⟨S512x4096, .bf16⟩
  | .hbm, ⟨8, _⟩ => ⟨S256x4x4x17, .f32⟩
  | .hbm, ⟨9, _⟩ => ⟨S256x272, .f32⟩
  | .hbm, ⟨10, _⟩ => ⟨S256x272, .bf16⟩
  | .hbm, ⟨11, _⟩ => ⟨S1x256, .f32⟩
  | .hbm, ⟨12, _⟩ => ⟨S1x17, .f32⟩
  | .hbm, ⟨13, _⟩ => ⟨S128x14x14x512, .f32⟩
  | .hbm, ⟨14, _⟩ => ⟨S_, .i32⟩
  | .hbm, ⟨15, _⟩ => ⟨S_, .f32⟩
  | .hbm, ⟨16, _⟩ => ⟨S128x16x16x512, .f32⟩
  | .hbm, ⟨17, _⟩ => ⟨S128x16x16x512, .bf16⟩
  | .hbm, ⟨18, _⟩ => ⟨S32x16x16x512, .bf16⟩
  | .hbm, ⟨19, _⟩ => ⟨S32x16x14x14x17, .f32⟩
  | .hbm, ⟨20, _⟩ => ⟨S32x2x2x2x2x14x14x17, .f32⟩
  | .hbm, ⟨21, _⟩ => ⟨S32x17x14x2x2x14x2x2, .f32⟩
  | .hbm, ⟨22, _⟩ => ⟨S32x17x56x56, .f32⟩
  | .hbm, ⟨23, _⟩ => ⟨S32x16x16x512, .bf16⟩
  | .hbm, ⟨24, _⟩ => ⟨S32x16x14x14x17, .f32⟩
  | .hbm, ⟨25, _⟩ => ⟨S32x2x2x2x2x14x14x17, .f32⟩
  | .hbm, ⟨26, _⟩ => ⟨S32x17x14x2x2x14x2x2, .f32⟩
  | .hbm, ⟨27, _⟩ => ⟨S32x17x56x56, .f32⟩
  | .hbm, ⟨28, _⟩ => ⟨S32x16x16x512, .bf16⟩
  | .hbm, ⟨29, _⟩ => ⟨S32x16x14x14x17, .f32⟩
  | .hbm, ⟨30, _⟩ => ⟨S32x2x2x2x2x14x14x17, .f32⟩
  | .hbm, ⟨31, _⟩ => ⟨S32x17x14x2x2x14x2x2, .f32⟩
  | .hbm, ⟨32, _⟩ => ⟨S32x17x56x56, .f32⟩
  | .hbm, ⟨33, _⟩ => ⟨S32x16x16x512, .bf16⟩
  | .hbm, ⟨34, _⟩ => ⟨S32x16x14x14x17, .f32⟩
  | .hbm, ⟨35, _⟩ => ⟨S32x2x2x2x2x14x14x17, .f32⟩
  | .hbm, ⟨36, _⟩ => ⟨S32x17x14x2x2x14x2x2, .f32⟩
  | .hbm, ⟨37, _⟩ => ⟨S32x17x56x56, .f32⟩
  | .hbm, ⟨38, _⟩ => ⟨S128x17x56x56, .f32⟩
  | .local _ .vmem, ⟨0, _⟩ => ⟨S4x16x16x512, .bf16⟩
  | .local _ .vmem, ⟨1, _⟩ => ⟨S4x16x16x512, .bf16⟩
  | .local _ .vmem, ⟨2, _⟩ => ⟨S512x4096, .bf16⟩
  | .local _ .vmem, ⟨3, _⟩ => ⟨S1x256, .f32⟩
  | .local _ .vmem, ⟨4, _⟩ => ⟨S256x272, .bf16⟩
  | .local _ .vmem, ⟨5, _⟩ => ⟨S1x17, .f32⟩
  | .local _ .vmem, ⟨6, _⟩ => ⟨S4x16x14x14x17, .f32⟩
  | .local _ .vmem, ⟨7, _⟩ => ⟨S4x16x14x14x17, .f32⟩
  | .local _ .vmem, ⟨8, _⟩ => ⟨S4x4x16x16x256, .bf16⟩
  | .local _ .vmem, ⟨9, _⟩ => ⟨S4x16x16x512, .bf16⟩
  | .local _ .vmem, ⟨10, _⟩ => ⟨S4x16x16x512, .bf16⟩
  | .local _ .vmem, ⟨11, _⟩ => ⟨S512x4096, .bf16⟩
  | .local _ .vmem, ⟨12, _⟩ => ⟨S1x256, .f32⟩
  | .local _ .vmem, ⟨13, _⟩ => ⟨S256x272, .bf16⟩
  | .local _ .vmem, ⟨14, _⟩ => ⟨S1x17, .f32⟩
  | .local _ .vmem, ⟨15, _⟩ => ⟨S4x16x14x14x17, .f32⟩
  | .local _ .vmem, ⟨16, _⟩ => ⟨S4x16x14x14x17, .f32⟩
  | .local _ .vmem, ⟨17, _⟩ => ⟨S4x4x16x16x256, .bf16⟩
  | .local _ .vmem, ⟨18, _⟩ => ⟨S4x16x16x512, .bf16⟩
  | .local _ .vmem, ⟨19, _⟩ => ⟨S4x16x16x512, .bf16⟩
  | .local _ .vmem, ⟨20, _⟩ => ⟨S512x4096, .bf16⟩
  | .local _ .vmem, ⟨21, _⟩ => ⟨S1x256, .f32⟩
  | .local _ .vmem, ⟨22, _⟩ => ⟨S256x272, .bf16⟩
  | .local _ .vmem, ⟨23, _⟩ => ⟨S1x17, .f32⟩
  | .local _ .vmem, ⟨24, _⟩ => ⟨S4x16x14x14x17, .f32⟩
  | .local _ .vmem, ⟨25, _⟩ => ⟨S4x16x14x14x17, .f32⟩
  | .local _ .vmem, ⟨26, _⟩ => ⟨S4x4x16x16x256, .bf16⟩
  | .local _ .vmem, ⟨27, _⟩ => ⟨S4x16x16x512, .bf16⟩
  | .local _ .vmem, ⟨28, _⟩ => ⟨S4x16x16x512, .bf16⟩
  | .local _ .vmem, ⟨29, _⟩ => ⟨S512x4096, .bf16⟩
  | .local _ .vmem, ⟨30, _⟩ => ⟨S1x256, .f32⟩
  | .local _ .vmem, ⟨31, _⟩ => ⟨S256x272, .bf16⟩
  | .local _ .vmem, ⟨32, _⟩ => ⟨S1x17, .f32⟩
  | .local _ .vmem, ⟨33, _⟩ => ⟨S4x16x14x14x17, .f32⟩
  | .local _ .vmem, ⟨34, _⟩ => ⟨S4x16x14x14x17, .f32⟩
  | .local _ .vmem, ⟨35, _⟩ => ⟨S4x4x16x16x256, .bf16⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S4x16x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x17 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x16x14x14x17 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage1_0 : Fin 2 → Memref sig .tc .vmem S4x16x16x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x272 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x17 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x16x14x14x17 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage2_0 : Fin 2 → Memref sig .tc .vmem S4x16x16x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x272 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x17 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4x16x14x14x17 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage3_0 : Fin 2 → Memref sig .tc .vmem S4x16x16x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x272 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x17 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4x16x14x14x17 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S128x512x14x14 : Shape := ⟨4, ![128, 512, 14, 14]⟩
abbrev S512x256x4x4 : Shape := ⟨4, ![512, 256, 4, 4]⟩
abbrev S256 : Shape := ⟨1, ![256]⟩
abbrev S256x17x4x4 : Shape := ⟨4, ![256, 17, 4, 4]⟩
abbrev S17 : Shape := ⟨1, ![17]⟩
abbrev S256x512x4x4 : Shape := ⟨4, ![256, 512, 4, 4]⟩
abbrev S_ : Shape := ⟨0, ![]⟩
abbrev S128x512x31x31 : Shape := ⟨4, ![128, 512, 31, 31]⟩
abbrev S128x256x28x28 : Shape := ⟨4, ![128, 256, 28, 28]⟩
abbrev S128x512x28x28 : Shape := ⟨4, ![128, 512, 28, 28]⟩
abbrev S256x512x1x1 : Shape := ⟨4, ![256, 512, 1, 1]⟩
abbrev S256x512 : Shape := ⟨2, ![256, 512]⟩
abbrev S256x128x28x28 : Shape := ⟨4, ![256, 128, 28, 28]⟩
abbrev S1x256x1x1 : Shape := ⟨4, ![1, 256, 1, 1]⟩
abbrev S17x256x4x4 : Shape := ⟨4, ![17, 256, 4, 4]⟩
abbrev S128x256x59x59 : Shape := ⟨4, ![128, 256, 59, 59]⟩
abbrev S128x17x56x56 : Shape := ⟨4, ![128, 17, 56, 56]⟩
abbrev S128x256x56x56 : Shape := ⟨4, ![128, 256, 56, 56]⟩
abbrev S17x256x1x1 : Shape := ⟨4, ![17, 256, 1, 1]⟩
abbrev S17x256 : Shape := ⟨2, ![17, 256]⟩
abbrev S17x128x56x56 : Shape := ⟨4, ![17, 128, 56, 56]⟩
abbrev S1x17x1x1 : Shape := ⟨4, ![1, 17, 1, 1]⟩

abbrev nBuf : Space → Nat
  | .hbm => 215
  | .vmem => 0
  | .smem => 0
  | _ => 0

abbrev hbmTy0_0 (i : Nat) : BufTy := match i % 128 with
  | 0 => ⟨S128x512x14x14, .f32⟩
  | 1 => ⟨S512x256x4x4, .f32⟩
  | 2 => ⟨S256, .f32⟩
  | 3 => ⟨S256x17x4x4, .f32⟩
  | 4 => ⟨S17, .f32⟩
  | 5 => ⟨S512x256x4x4, .f32⟩
  | 6 => ⟨S256x512x4x4, .f32⟩
  | 7 => ⟨S_, .f32⟩
  | 8 => ⟨S128x512x31x31, .f32⟩
  | 9 => ⟨S_, .f32⟩
  | 10 => ⟨S128x256x28x28, .f32⟩
  | 11 => ⟨S128x512x28x28, .f32⟩
  | 12 => ⟨S256x512x1x1, .f32⟩
  | 13 => ⟨S256x512, .f32⟩
  | 14 => ⟨S256x128x28x28, .f32⟩
  | 15 => ⟨S128x256x28x28, .f32⟩
  | 16 => ⟨S128x256x28x28, .f32⟩
  | 17 => ⟨S128x512x28x28, .f32⟩
  | 18 => ⟨S256x512x1x1, .f32⟩
  | 19 => ⟨S256x512, .f32⟩
  | 20 => ⟨S256x128x28x28, .f32⟩
  | 21 => ⟨S128x256x28x28, .f32⟩
  | 22 => ⟨S128x256x28x28, .f32⟩
  | 23 => ⟨S128x512x28x28, .f32⟩
  | 24 => ⟨S256x512x1x1, .f32⟩
  | 25 => ⟨S256x512, .f32⟩
  | 26 => ⟨S256x128x28x28, .f32⟩
  | 27 => ⟨S128x256x28x28, .f32⟩
  | 28 => ⟨S128x256x28x28, .f32⟩
  | 29 => ⟨S128x512x28x28, .f32⟩
  | 30 => ⟨S256x512x1x1, .f32⟩
  | 31 => ⟨S256x512, .f32⟩
  | 32 => ⟨S256x128x28x28, .f32⟩
  | 33 => ⟨S128x256x28x28, .f32⟩
  | 34 => ⟨S128x256x28x28, .f32⟩
  | 35 => ⟨S128x512x28x28, .f32⟩
  | 36 => ⟨S256x512x1x1, .f32⟩
  | 37 => ⟨S256x512, .f32⟩
  | 38 => ⟨S256x128x28x28, .f32⟩
  | 39 => ⟨S128x256x28x28, .f32⟩
  | 40 => ⟨S128x256x28x28, .f32⟩
  | 41 => ⟨S128x512x28x28, .f32⟩
  | 42 => ⟨S256x512x1x1, .f32⟩
  | 43 => ⟨S256x512, .f32⟩
  | 44 => ⟨S256x128x28x28, .f32⟩
  | 45 => ⟨S128x256x28x28, .f32⟩
  | 46 => ⟨S128x256x28x28, .f32⟩
  | 47 => ⟨S128x512x28x28, .f32⟩
  | 48 => ⟨S256x512x1x1, .f32⟩
  | 49 => ⟨S256x512, .f32⟩
  | 50 => ⟨S256x128x28x28, .f32⟩
  | 51 => ⟨S128x256x28x28, .f32⟩
  | 52 => ⟨S128x256x28x28, .f32⟩
  | 53 => ⟨S128x512x28x28, .f32⟩
  | 54 => ⟨S256x512x1x1, .f32⟩
  | 55 => ⟨S256x512, .f32⟩
  | 56 => ⟨S256x128x28x28, .f32⟩
  | 57 => ⟨S128x256x28x28, .f32⟩
  | 58 => ⟨S128x256x28x28, .f32⟩
  | 59 => ⟨S128x512x28x28, .f32⟩
  | 60 => ⟨S256x512x1x1, .f32⟩
  | 61 => ⟨S256x512, .f32⟩
  | 62 => ⟨S256x128x28x28, .f32⟩
  | 63 => ⟨S128x256x28x28, .f32⟩
  | 64 => ⟨S128x256x28x28, .f32⟩
  | 65 => ⟨S128x512x28x28, .f32⟩
  | 66 => ⟨S256x512x1x1, .f32⟩
  | 67 => ⟨S256x512, .f32⟩
  | 68 => ⟨S256x128x28x28, .f32⟩
  | 69 => ⟨S128x256x28x28, .f32⟩
  | 70 => ⟨S128x256x28x28, .f32⟩
  | 71 => ⟨S128x512x28x28, .f32⟩
  | 72 => ⟨S256x512x1x1, .f32⟩
  | 73 => ⟨S256x512, .f32⟩
  | 74 => ⟨S256x128x28x28, .f32⟩
  | 75 => ⟨S128x256x28x28, .f32⟩
  | 76 => ⟨S128x256x28x28, .f32⟩
  | 77 => ⟨S128x512x28x28, .f32⟩
  | 78 => ⟨S256x512x1x1, .f32⟩
  | 79 => ⟨S256x512, .f32⟩
  | 80 => ⟨S256x128x28x28, .f32⟩
  | 81 => ⟨S128x256x28x28, .f32⟩
  | 82 => ⟨S128x256x28x28, .f32⟩
  | 83 => ⟨S128x512x28x28, .f32⟩
  | 84 => ⟨S256x512x1x1, .f32⟩
  | 85 => ⟨S256x512, .f32⟩
  | 86 => ⟨S256x128x28x28, .f32⟩
  | 87 => ⟨S128x256x28x28, .f32⟩
  | 88 => ⟨S128x256x28x28, .f32⟩
  | 89 => ⟨S128x512x28x28, .f32⟩
  | 90 => ⟨S256x512x1x1, .f32⟩
  | 91 => ⟨S256x512, .f32⟩
  | 92 => ⟨S256x128x28x28, .f32⟩
  | 93 => ⟨S128x256x28x28, .f32⟩
  | 94 => ⟨S128x256x28x28, .f32⟩
  | 95 => ⟨S128x512x28x28, .f32⟩
  | 96 => ⟨S256x512x1x1, .f32⟩
  | 97 => ⟨S256x512, .f32⟩
  | 98 => ⟨S256x128x28x28, .f32⟩
  | 99 => ⟨S128x256x28x28, .f32⟩
  | 100 => ⟨S128x256x28x28, .f32⟩
  | 101 => ⟨S128x512x28x28, .f32⟩
  | 102 => ⟨S256x512x1x1, .f32⟩
  | 103 => ⟨S256x512, .f32⟩
  | 104 => ⟨S256x128x28x28, .f32⟩
  | 105 => ⟨S128x256x28x28, .f32⟩
  | 106 => ⟨S128x256x28x28, .f32⟩
  | 107 => ⟨S1x256x1x1, .f32⟩
  | 108 => ⟨S128x256x28x28, .f32⟩
  | 109 => ⟨S128x256x28x28, .f32⟩
  | 110 => ⟨S256x17x4x4, .f32⟩
  | 111 => ⟨S17x256x4x4, .f32⟩
  | 112 => ⟨S_, .f32⟩
  | 113 => ⟨S128x256x59x59, .f32⟩
  | 114 => ⟨S_, .f32⟩
  | 115 => ⟨S128x17x56x56, .f32⟩
  | 116 => ⟨S128x256x56x56, .f32⟩
  | 117 => ⟨S17x256x1x1, .f32⟩
  | 118 => ⟨S17x256, .f32⟩
  | 119 => ⟨S17x128x56x56, .f32⟩
  | 120 => ⟨S128x17x56x56, .f32⟩
  | 121 => ⟨S128x17x56x56, .f32⟩
  | 122 => ⟨S128x256x56x56, .f32⟩
  | 123 => ⟨S17x256x1x1, .f32⟩
  | 124 => ⟨S17x256, .f32⟩
  | 125 => ⟨S17x128x56x56, .f32⟩
  | 126 => ⟨S128x17x56x56, .f32⟩
  | 127 => ⟨S128x17x56x56, .f32⟩
  | _ => ⟨S128x512x14x14, .f32⟩

abbrev hbmTy0_1 (i : Nat) : BufTy := match i % 128 with
  | 0 => ⟨S128x256x56x56, .f32⟩
  | 1 => ⟨S17x256x1x1, .f32⟩
  | 2 => ⟨S17x256, .f32⟩
  | 3 => ⟨S17x128x56x56, .f32⟩
  | 4 => ⟨S128x17x56x56, .f32⟩
  | 5 => ⟨S128x17x56x56, .f32⟩
  | 6 => ⟨S128x256x56x56, .f32⟩
  | 7 => ⟨S17x256x1x1, .f32⟩
  | 8 => ⟨S17x256, .f32⟩
  | 9 => ⟨S17x128x56x56, .f32⟩
  | 10 => ⟨S128x17x56x56, .f32⟩
  | 11 => ⟨S128x17x56x56, .f32⟩
  | 12 => ⟨S128x256x56x56, .f32⟩
  | 13 => ⟨S17x256x1x1, .f32⟩
  | 14 => ⟨S17x256, .f32⟩
  | 15 => ⟨S17x128x56x56, .f32⟩
  | 16 => ⟨S128x17x56x56, .f32⟩
  | 17 => ⟨S128x17x56x56, .f32⟩
  | 18 => ⟨S128x256x56x56, .f32⟩
  | 19 => ⟨S17x256x1x1, .f32⟩
  | 20 => ⟨S17x256, .f32⟩
  | 21 => ⟨S17x128x56x56, .f32⟩
  | 22 => ⟨S128x17x56x56, .f32⟩
  | 23 => ⟨S128x17x56x56, .f32⟩
  | 24 => ⟨S128x256x56x56, .f32⟩
  | 25 => ⟨S17x256x1x1, .f32⟩
  | 26 => ⟨S17x256, .f32⟩
  | 27 => ⟨S17x128x56x56, .f32⟩
  | 28 => ⟨S128x17x56x56, .f32⟩
  | 29 => ⟨S128x17x56x56, .f32⟩
  | 30 => ⟨S128x256x56x56, .f32⟩
  | 31 => ⟨S17x256x1x1, .f32⟩
  | 32 => ⟨S17x256, .f32⟩
  | 33 => ⟨S17x128x56x56, .f32⟩
  | 34 => ⟨S128x17x56x56, .f32⟩
  | 35 => ⟨S128x17x56x56, .f32⟩
  | 36 => ⟨S128x256x56x56, .f32⟩
  | 37 => ⟨S17x256x1x1, .f32⟩
  | 38 => ⟨S17x256, .f32⟩
  | 39 => ⟨S17x128x56x56, .f32⟩
  | 40 => ⟨S128x17x56x56, .f32⟩
  | 41 => ⟨S128x17x56x56, .f32⟩
  | 42 => ⟨S128x256x56x56, .f32⟩
  | 43 => ⟨S17x256x1x1, .f32⟩
  | 44 => ⟨S17x256, .f32⟩
  | 45 => ⟨S17x128x56x56, .f32⟩
  | 46 => ⟨S128x17x56x56, .f32⟩
  | 47 => ⟨S128x17x56x56, .f32⟩
  | 48 => ⟨S128x256x56x56, .f32⟩
  | 49 => ⟨S17x256x1x1, .f32⟩
  | 50 => ⟨S17x256, .f32⟩
  | 51 => ⟨S17x128x56x56, .f32⟩
  | 52 => ⟨S128x17x56x56, .f32⟩
  | 53 => ⟨S128x17x56x56, .f32⟩
  | 54 => ⟨S128x256x56x56, .f32⟩
  | 55 => ⟨S17x256x1x1, .f32⟩
  | 56 => ⟨S17x256, .f32⟩
  | 57 => ⟨S17x128x56x56, .f32⟩
  | 58 => ⟨S128x17x56x56, .f32⟩
  | 59 => ⟨S128x17x56x56, .f32⟩
  | 60 => ⟨S128x256x56x56, .f32⟩
  | 61 => ⟨S17x256x1x1, .f32⟩
  | 62 => ⟨S17x256, .f32⟩
  | 63 => ⟨S17x128x56x56, .f32⟩
  | 64 => ⟨S128x17x56x56, .f32⟩
  | 65 => ⟨S128x17x56x56, .f32⟩
  | 66 => ⟨S128x256x56x56, .f32⟩
  | 67 => ⟨S17x256x1x1, .f32⟩
  | 68 => ⟨S17x256, .f32⟩
  | 69 => ⟨S17x128x56x56, .f32⟩
  | 70 => ⟨S128x17x56x56, .f32⟩
  | 71 => ⟨S128x17x56x56, .f32⟩
  | 72 => ⟨S128x256x56x56, .f32⟩
  | 73 => ⟨S17x256x1x1, .f32⟩
  | 74 => ⟨S17x256, .f32⟩
  | 75 => ⟨S17x128x56x56, .f32⟩
  | 76 => ⟨S128x17x56x56, .f32⟩
  | 77 => ⟨S128x17x56x56, .f32⟩
  | 78 => ⟨S128x256x56x56, .f32⟩
  | 79 => ⟨S17x256x1x1, .f32⟩
  | 80 => ⟨S17x256, .f32⟩
  | 81 => ⟨S17x128x56x56, .f32⟩
  | 82 => ⟨S128x17x56x56, .f32⟩
  | 83 => ⟨S128x17x56x56, .f32⟩
  | 84 => ⟨S1x17x1x1, .f32⟩
  | 85 => ⟨S128x17x56x56, .f32⟩
  | 86 => ⟨S128x17x56x56, .f32⟩
  | _ => ⟨S128x512x14x14, .f32⟩

abbrev hbmTy (i : Nat) : BufTy := match i / 128 with
  | 0 => hbmTy0_0 i
  | 1 => hbmTy0_1 i
  | _ => ⟨S128x512x14x14, .f32⟩

abbrev bufTy : (tb : Table) → Fin (tcTables nBuf tb) → BufTy
  | .hbm, ⟨i, _⟩ => hbmTy i
  | _, _ => ⟨S128x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_cst_1 : Ref sig .tc := ⟨.hbm, 112, rfl⟩
abbrev main_v105 : Ref sig .tc := ⟨.hbm, 113, rfl⟩
abbrev main_cst_2 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩

abbrev nD : Nat := 1
abbrev τ : Topo := Topo.v7x

variable {F : FTy → Type} [FloatOps F]
-- ==== Proof.Body.lean ====
/- The kernel body run once, on any whole staging buffers: the five inputs held at known contents, the output
   block held at anything, the scratch held at known contents `s`. The run finds the sixteen stores of the output
   block and what the scratch holds at the end, whether or not the point is the first of the grid (where the
   scratch is filled with zeros first). -/
module

public import proofs.«01_k».proof.Proof.Gen.Kernel.Skeleton
public import Idealize.ShloMosaic.Lib.Pipeline.FrameBody
public import Idealize.ShloMosaic.Lib.Ring
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The stores of the output block (last first) and the final contents of the scratch, with the proof that the body
    runs from the inputs at `x1`…`x5`, the output block at anything and the scratch at `s` to the inputs unchanged,
    the output block with those stores written and the scratch at those contents. -/
noncomputable def bodyRun (c : Dev nD) (i : grid0.Coords)
    (arg1 : Memref sig .tc .vmem S4x16x16x512 .bf16) (harg1 : arg1.IsWhole) (arg2 : Memref sig .tc .vmem S512x4096 .bf16) (harg2 : arg2.IsWhole)
    (arg3 : Memref sig .tc .vmem S1x256 .f32) (harg3 : arg3.IsWhole) (arg4 : Memref sig .tc .vmem S256x272 .bf16) (harg4 : arg4.IsWhole)
    (arg5 : Memref sig .tc .vmem S1x17 .f32) (harg5 : arg5.IsWhole) (arg6 : Memref sig .tc .vmem S4x16x14x14x17 .f32) (harg6 : arg6.IsWhole)
    (arg7 : Memref sig .tc .vmem S4x4x16x16x256 .bf16) (harg7 : arg7.IsWhole)
    (x1 : Vec F S4x16x16x512 .bf16) (x2 : Vec F S512x4096 .bf16) (x3 : Vec F S1x256 .f32) (x4 : Vec F S256x272 .bf16) (x5 : Vec F S1x17 .f32)
    (s : Vec F S4x4x16x16x256 .bf16) :
    { L : List (View.Piece (Elt F) S4x16x14x14x17 .f32) × Buf (Elt F) (arg7.view.loc (c : Thread nD τ)) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ owns (c : Thread nD τ) arg7 fullShare s
            ∗ (iprop(owns (c : Thread nD τ) arg1 fullShare x1 ∗ owns (c : Thread nD τ) arg2 fullShare x2 ∗ owns (c : Thread nD τ) arg3 fullShare x3
              ∗ owns (c : Thread nD τ) arg4 fullShare x4 ∗ owns (c : Thread nD τ) arg5 fullShare x5
              ∗ (∃ f, arg6.view.loc (c : Thread nD τ) ↦[arg6.view.set]{fullShare} arg6.view.writes (Elt F) f L.1)
              ∗ arg7.view.loc (c : Thread nD τ) ↦[arg7.view.set]{fullShare} L.2) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨⟨?_, ?_⟩, fun E K => ?run⟩
  case run =>
    simp only [cc0__body_eq_skeleton, k0_part1_eq_skeleton, k0_part2_eq_skeleton, k0_part3_eq_skeleton, k0_part4_eq_skeleton, k0_part5_eq_skeleton,
      k0_part6_eq_skeleton, k0_part7_eq_skeleton, k0_part8_eq_skeleton]
    unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexact H7

end Cert.Kernel.Gen

end
-- ==== Proof.Values.lean ====
/- What one run of the kernel body leaves: the hidden block the scratch holds and the sixteen phases of the output
   block, as functions of the blocks the body reads.

   The hidden image (28x28 per channel) is kept as four phase images of 14x14, the pixel (2r+e, 2s+f) in phase 2e+f at
   (r, s), each with a border of one pixel all around. The output image (56x56) is produced as sixteen phase images. -/
module

public import proofs.«01_k».proof.Proof.Body
public import Idealize.ShloMosaic.Lib.Writes
public import Idealize.ShloMosaic.Lib.VecWindow
public import Idealize.ShloMosaic.Lib.PointwiseCore

@[expose] public section

set_option maxRecDepth 16384

noncomputable section

namespace Cert.Kernel.Gen

open Idealize.ShloMosaic Idealize.ShloMosaic.TcCoe
open Idealize.SL.Sem

variable {F : FTy → Type} [FloatOps F]

/-! ## The two layers, phase by phase -/

/-- Where tap (u, v) of the hidden phase (e, f) starts in the product of the padded input with every tap's weights:
    the padded input row and column, and the first of the tap's 256 columns. -/
def hOff (e f u v : Fin 2) : Fin 4 → ℕ :=
  ![0, 1 + e.val - u.val, 1 + f.val - v.val, ((1 - e.val + 2 * u.val) * 4 + (1 - f.val + 2 * v.val)) * 256]

/-- A 14x14 window at such a start lies within the product. -/
theorem hOff_slices : ∀ e f u v : Fin 2, S4x16x16x4096.Slices (hOff e f u v) S4x14x14x256 := by decide

/-- The hidden phase (e, f): its four taps' windows of the product `A` summed, the bias `b` added, rounded. -/
def hPhase (A : FVec F S4x16x16x4096 .f32) (b : FVec F S1x256 .f32) (e f : Fin 2) : FVec F S4x1x14x14x256 .bf16 :=
  shapeCast S4x1x14x14x256 (truncf .bf16 (addf (addf (addf (addf
    (extractStridedSlice S4x14x14x256 (hOff e f 0 0) A (hOff_slices e f 0 0))
    (extractStridedSlice S4x14x14x256 (hOff e f 0 1) A (hOff_slices e f 0 1)))
    (extractStridedSlice S4x14x14x256 (hOff e f 1 0) A (hOff_slices e f 1 0)))
    (extractStridedSlice S4x14x14x256 (hOff e f 1 1) A (hOff_slices e f 1 1)))
    (broadcastTo S4x14x14x256 (shapeCast S1x1x1x256 b shapeCasts_S1x256_S1x1x1x256) broadcasts_S1x1x1x256_S4x14x14x256)) bitsLt_bf16_f32)
    shapeCasts_S4x14x14x256_S4x1x14x14x256

/-- The two bits of a phase's number. -/
def bitHi (i : Fin 4) : Fin 2 := ⟨i.val / 2, by omega⟩
def bitLo (i : Fin 4) : Fin 2 := ⟨i.val % 2, by omega⟩

/-- The four hidden phases of a block. -/
def hPhases (x1 : Vec F S4x16x16x512 .bf16) (x2 : Vec F S512x4096 .bf16) (x3 : Vec F S1x256 .f32) (i : Fin 4) :
    Vec F S4x1x14x14x256 .bf16 :=
  hPhase (k0_pay3 x1 x2) (k0_pay4 x3) (bitHi i) (bitLo i)

/-- The hidden block: the phases inside, what `B` holds on the border. -/
def hidden (H : Fin 4 → Vec F S4x1x14x14x256 .bf16) (B : Vec F S4x4x16x16x256 .bf16) : Vec F S4x4x16x16x256 .bf16 := fun y =>
  if h : (1 ≤ (y 2).val ∧ (y 2).val ≤ 14) ∧ 1 ≤ (y 3).val ∧ (y 3).val ≤ 14 then
    H (y 1) (ValueIdx.ix5 (y 0) 0 ⟨(y 2).val - 1, by omega⟩ ⟨(y 3).val - 1, by omega⟩ (y 4))
  else B y

/-- Where tap (u, v) of the output phase (fh, gh, fw, gw) starts in the product of the hidden block with every tap's
    weights: the hidden phase, its row and column (border included), and the first of the tap's 17 columns. -/
def oOff (fh gh fw gw u v : Fin 2) : Fin 5 → ℕ :=
  ![0, (gh.val + fh.val + 2 - u.val) % 2 * 2 + (gw.val + fw.val + 2 - v.val) % 2,
    (gh.val + fh.val + 2 - u.val) / 2, (gw.val + fw.val + 2 - v.val) / 2,
    ((1 - fh.val + 2 * u.val) * 4 + (1 - fw.val + 2 * v.val)) * 17]

/-- A 14x14 window at such a start lies within the product. -/
theorem oOff_slices : ∀ fh gh fw gw u v : Fin 2, S4x4x16x16x272.Slices (oOff fh gh fw gw u v) S4x1x14x14x17 := by decide

/-- One tap's window of the product. -/
def oTap (A : FVec F S4x4x16x16x272 .f32) (fh gh fw gw u v : Fin 2) : FVec F S4x14x14x17 .f32 :=
  shapeCast S4x14x14x17 (extractStridedSlice S4x1x14x14x17 (oOff fh gh fw gw u v) A (oOff_slices fh gh fw gw u v))
    shapeCasts_S4x1x14x14x17_S4x14x14x17

/-- The output phase (fh, gh, fw, gw): its four taps' windows of the product `A` summed, the bias `b` added. -/
def oPhase (A : FVec F S4x4x16x16x272 .f32) (b : FVec F S1x17 .f32) (fh gh fw gw : Fin 2) : FVec F S4x1x14x14x17 .f32 :=
  shapeCast S4x1x14x14x17 (addf (addf (addf (addf
    (oTap A fh gh fw gw 0 0) (oTap A fh gh fw gw 0 1)) (oTap A fh gh fw gw 1 0)) (oTap A fh gh fw gw 1 1))
    (broadcastTo S4x14x14x17 (shapeCast S1x1x1x17 b shapeCasts_S1x17_S1x1x1x17) broadcasts_S1x1x1x17_S4x14x14x17))
    shapeCasts_S4x14x14x17_S4x1x14x14x17

/-- The four bits of an output phase's number, highest first. -/
def bit3 (i : Fin 16) : Fin 2 := ⟨i.val / 8, by omega⟩
def bit2 (i : Fin 16) : Fin 2 := ⟨i.val / 4 % 2, by omega⟩
def bit1 (i : Fin 16) : Fin 2 := ⟨i.val / 2 % 2, by omega⟩
def bit0 (i : Fin 16) : Fin 2 := ⟨i.val % 2, by omega⟩

/-- The sixteen output phases of a hidden block. -/
def oPhases (h : Vec F S4x4x16x16x256 .bf16) (x4 : Vec F S256x272 .bf16) (x5 : Vec F S1x17 .f32) (i : Fin 16) :
    Vec F S4x1x14x14x17 .f32 :=
  oPhase (k0_pay10 h x4) (k0_pay11 x5) (bit3 i) (bit2 i) (bit1 i) (bit0 i)

/-- The output block: every phase in its place. -/
def outBlock (O : Fin 16 → Vec F S4x1x14x14x17 .f32) : Vec F S4x16x14x14x17 .f32 := fun y =>
  O (y 1) (ValueIdx.ix5 (y 0) 0 (y 2) (y 3) (y 4))

/-! ## Stores read back -/

/-- A store over a whole block reads back as what was stored. -/
theorem read_whole_store {κ : Kind} {sp : Space} {t : Shape} {e : EltTy} (v : View sig κ sp t e) (f : v.ty.Contents (Elt F))
    {off : Fin t.rank → ℕ} (inb : ∀ a, off a + t.size a ≤ t.size a) (w : t.Idx → Elt F e) :
    v.read (Elt F) (v.writes (Elt F) f [⟨Rect.unit off t.size inb, w⟩]) = w := by
  funext y
  refine View.read_writes_cons_hit_of_coords v f (Rect.unit off t.size inb) w [] y y fun a => ?_
  show (y a).val = off a + 1 * (y a).val
  have := inb a
  omega

/-- The rows 1 to 14 of hidden phase `e`, whole. -/
theorem hRect_inb (e : Fin 4) : ∀ a, (![0, e.val, 1, 0, 0] : Fin 5 → ℕ) a + S4x1x14x16x256.size a ≤ S4x4x16x16x256.size a
  | ⟨0, _⟩ => by show 0 + 4 ≤ 4; omega
  | ⟨1, _⟩ => by show e.val + 1 ≤ 4; omega
  | ⟨2, _⟩ => by show 1 + 14 ≤ 16; omega
  | ⟨3, _⟩ => by show 0 + 16 ≤ 16; omega
  | ⟨4, _⟩ => by show 0 + 256 ≤ 256; omega
/-- Those rows as a rectangle. -/
abbrev hRect (e : Fin 4) : Rect S4x4x16x16x256 := Rect.unit ![0, e.val, 1, 0, 0] S4x1x14x16x256.size (hRect_inb e)

/-- The store of hidden phase `e` rewrites those rows: the 14 columns inside with the new values, the two outer columns
    with what they held. -/
def hPiece {κ : Kind} {sp : Space} (v : View sig κ sp S4x4x16x16x256 .bf16) (f : v.ty.Contents (Elt F))
    (H : Fin 4 → Vec F S4x1x14x14x256 .bf16) (e : Fin 4) : View.Piece (Elt F) S4x4x16x16x256 .bf16 :=
  ⟨hRect e, updateSlice (s := S4x1x14x16x256) (v.readAt (Elt F) (hRect e).toLoadRect f)
    (H e) ![0, 0, 0, 1, 0] slices_S4x1x14x16x256_S4x1x14x14x256_0_0_0_1_0⟩

/-- The four stores of the hidden phases, the last first. -/
def hPieces {κ : Kind} {sp : Space} (v : View sig κ sp S4x4x16x16x256 .bf16) (f : v.ty.Contents (Elt F))
    (H : Fin 4 → Vec F S4x1x14x14x256 .bf16) : List (View.Piece (Elt F) S4x4x16x16x256 .bf16) :=
  [hPiece v f H 3, hPiece v f H 2, hPiece v f H 1, hPiece v f H 0]

/-- The four stores as a map over the phases. -/
theorem hPieces_eq {κ : Kind} {sp : Space} (v : View sig κ sp S4x4x16x16x256 .bf16) (f : v.ty.Contents (Elt F))
    (H : Fin 4 → Vec F S4x1x14x14x256 .bf16) : hPieces v f H = ([3, 2, 1, 0] : List (Fin 4)).map (hPiece v f H) := rfl

/-- One store of a hidden phase writes what the hidden block is at its places. -/
theorem hPiece_apply (H : Fin 4 → Vec F S4x1x14x14x256 .bf16) (B : Vec F S4x4x16x16x256 .bf16) (e : Fin 4)
    (x : S4x1x14x16x256.Idx) :
    updateSlice (s := S4x1x14x16x256) (fun x => B ((hRect e).emb x)) (H e) ![0, 0, 0, 1, 0]
        slices_S4x1x14x16x256_S4x1x14x14x256_0_0_0_1_0 x
      = hidden H B ((hRect e).emb x) := by
  have h0 : (x 0).val < 4 := (x 0).isLt
  have h1 : (x 1).val < 1 := (x 1).isLt
  have h2 : (x 2).val < 14 := (x 2).isLt
  have h3 : (x 3).val < 16 := (x 3).isLt
  have h4 : (x 4).val < 256 := (x 4).isLt
  set y := (hRect e).emb x with hy
  have e0 : (y 0).val = (x 0).val := by show 0 + 1 * (x 0).val = _; omega
  have e1 : y 1 = e := Fin.ext (by show e.val + 1 * (x 1).val = e.val; omega)
  have e2 : (y 2).val = 1 + (x 2).val := by show 1 + 1 * (x 2).val = _; omega
  have e3 : (y 3).val = (x 3).val := by show 0 + 1 * (x 3).val = _; omega
  have e4 : (y 4).val = (x 4).val := by show 0 + 1 * (x 4).val = _; omega
  unfold updateSlice hidden
  by_cases hin : 1 ≤ (x 3).val ∧ (x 3).val ≤ 14
  · rw [dif_pos (by
      intro a
      match a with
      | ⟨0, _⟩ => exact ⟨Nat.zero_le _, by show (x 0).val < 0 + 4; omega⟩
      | ⟨1, _⟩ => exact ⟨Nat.zero_le _, by show (x 1).val < 0 + 1; omega⟩
      | ⟨2, _⟩ => exact ⟨Nat.zero_le _, by show (x 2).val < 0 + 14; omega⟩
      | ⟨3, _⟩ => exact ⟨hin.1, by show (x 3).val < 1 + 14; omega⟩
      | ⟨4, _⟩ => exact ⟨Nat.zero_le _, by show (x 4).val < 0 + 256; omega⟩), dif_pos (by omega), e1]
    congr 1
    funext a
    match a with
    | ⟨0, _⟩ => exact Fin.ext (by show (x 0).val - 0 = (y 0).val; omega)
    | ⟨1, _⟩ => exact Fin.ext (by show (x 1).val - 0 = 0; omega)
    | ⟨2, _⟩ => exact Fin.ext (by show (x 2).val - 0 = (y 2).val - 1; omega)
    | ⟨3, _⟩ => exact Fin.ext (by show (x 3).val - 1 = (y 3).val - 1; omega)
    | ⟨4, _⟩ => exact Fin.ext (by show (x 4).val - 0 = (y 4).val; omega)
  · rw [dif_neg (fun h => hin (by
      have := h (3 : Fin 5)
      have ha : 1 ≤ (x 3).val ∧ (x 3).val < 1 + 14 := this
      omega)), dif_neg (by omega)]

/-- After the four stores the scratch holds the hidden block over what it held. -/
theorem hPieces_read {κ : Kind} {sp : Space} (v : View sig κ sp S4x4x16x16x256 .bf16) (f : v.ty.Contents (Elt F))
    (H : Fin 4 → Vec F S4x1x14x14x256 .bf16) :
    v.read (Elt F) (v.writes (Elt F) f (hPieces v f H)) = hidden H (v.read (Elt F) f) := by
  funext y
  have h0 : (y 0).val < 4 := (y 0).isLt
  have h1 : (y 1).val < 4 := (y 1).isLt
  have h3 : (y 3).val < 16 := (y 3).isLt
  have h4 : (y 4).val < 256 := (y 4).isLt
  by_cases hy : 1 ≤ (y 2).val ∧ (y 2).val ≤ 14
  · rw [hPieces_eq]
    refine View.read_writes_apply_of_pieces v f (hidden H (v.read (Elt F) f)) _ ?_ y
      ⟨hPiece v f H (y 1), List.mem_map.mpr ⟨(y 1 : Fin 4), ?_, rfl⟩, ?_⟩
    · intro p hp
      obtain ⟨e, -, rfl⟩ := List.mem_map.mp hp
      exact fun x => hPiece_apply H (v.read (Elt F) f) e x
    · exact (by decide : ∀ i : Fin 4, i ∈ ([3, 2, 1, 0] : List (Fin 4))) _
    · refine (Rect.mem_set_unit (inb := hRect_inb (y 1))).mpr fun a => ?_
      match a with
      | ⟨0, _⟩ => exact ⟨Nat.zero_le _, by show (y 0).val < 0 + 4; omega⟩
      | ⟨1, _⟩ => exact ⟨Nat.le_refl _, Nat.lt_succ_self _⟩
      | ⟨2, _⟩ => exact ⟨hy.1, by show (y 2).val < 1 + 14; omega⟩
      | ⟨3, _⟩ => exact ⟨Nat.zero_le _, by show (y 3).val < 0 + 16; omega⟩
      | ⟨4, _⟩ => exact ⟨Nat.zero_le _, by show (y 4).val < 0 + 256; omega⟩
  · rw [View.read_writes_apply_of_forall_not_mem]
    · unfold hidden; rw [dif_neg (fun h => hy h.1)]
    · rw [hPieces_eq]
      intro p hp hm
      obtain ⟨e, -, rfl⟩ := List.mem_map.mp hp
      have := (Rect.mem_set_unit (inb := hRect_inb e)).mp hm (2 : Fin 5)
      have h2 : 1 ≤ (y 2).val ∧ (y 2).val < 1 + 14 := this
      omega

/-- A rectangle holding output phase `i`. -/
theorem oRect_inb (i : Fin 16) : ∀ a, (![0, i.val, 0, 0, 0] : Fin 5 → ℕ) a + S4x1x14x14x17.size a ≤ S4x16x14x14x17.size a
  | ⟨0, _⟩ => by show 0 + 4 ≤ 4; omega
  | ⟨1, _⟩ => by show i.val + 1 ≤ 16; omega
  | ⟨2, _⟩ => by show 0 + 14 ≤ 14; omega
  | ⟨3, _⟩ => by show 0 + 14 ≤ 14; omega
  | ⟨4, _⟩ => by show 0 + 17 ≤ 17; omega

/-- The store of output phase `i`. -/
def oPiece (O : Fin 16 → Vec F S4x1x14x14x17 .f32) (i : Fin 16) : View.Piece (Elt F) S4x16x14x14x17 .f32 :=
  ⟨Rect.unit (s := S4x16x14x14x17) ![0, i.val, 0, 0, 0] S4x1x14x14x17.size (oRect_inb i), O i⟩

/-- The sixteen stores, the last first. -/
def oPieces (O : Fin 16 → Vec F S4x1x14x14x17 .f32) : List (View.Piece (Elt F) S4x16x14x14x17 .f32) :=
  [oPiece O 15, oPiece O 14, oPiece O 13, oPiece O 12, oPiece O 11, oPiece O 10, oPiece O 9, oPiece O 8,
   oPiece O 7, oPiece O 6, oPiece O 5, oPiece O 4, oPiece O 3, oPiece O 2, oPiece O 1, oPiece O 0]

/-- The sixteen stores as a map over the phases. -/
theorem oPieces_eq (O : Fin 16 → Vec F S4x1x14x14x17 .f32) :
    oPieces O = ([15, 14, 13, 12, 11, 10, 9, 8, 7, 6, 5, 4, 3, 2, 1, 0] : List (Fin 16)).map (oPiece O) := rfl

/-- After the sixteen stores the output block is every phase in its place. -/
theorem oPieces_read {κ : Kind} {sp : Space} (v : View sig κ sp S4x16x14x14x17 .f32) (f : v.ty.Contents (Elt F))
    (O : Fin 16 → Vec F S4x1x14x14x17 .f32) :
    v.read (Elt F) (v.writes (Elt F) f (oPieces O)) = outBlock O := by
  funext y
  have h0 : (y 0).val < 4 := (y 0).isLt
  have h2 : (y 2).val < 14 := (y 2).isLt
  have h3 : (y 3).val < 14 := (y 3).isLt
  have h4 : (y 4).val < 17 := (y 4).isLt
  rw [oPieces_eq]
  refine View.read_writes_apply_of_pieces v f (outBlock O) _ ?_ y ⟨oPiece O (y 1), List.mem_map.mpr ⟨(y 1 : Fin 16), ?_, rfl⟩, ?_⟩
  · intro p hp
    obtain ⟨i, -, rfl⟩ := List.mem_map.mp hp
    intro x
    have h1 : (x 1).val < 1 := (x 1).isLt
    show O i x = O _ _
    congr 1
    · exact Fin.ext (by show i.val = i.val + 1 * (x 1).val; omega)
    · funext a
      match a with
      | ⟨0, _⟩ => exact Fin.ext (by show (x 0).val = 0 + 1 * (x 0).val; omega)
      | ⟨1, _⟩ => exact Fin.ext (by show (x 1).val = 0; omega)
      | ⟨2, _⟩ => exact Fin.ext (by show (x 2).val = 0 + 1 * (x 2).val; omega)
      | ⟨3, _⟩ => exact Fin.ext (by show (x 3).val = 0 + 1 * (x 3).val; omega)
      | ⟨4, _⟩ => exact Fin.ext (by show (x 4).val = 0 + 1 * (x 4).val; omega)
  · exact (by decide : ∀ i : Fin 16, i ∈ ([15, 14, 13, 12, 11, 10, 9, 8, 7, 6, 5, 4, 3, 2, 1, 0] : List (Fin 16))) _
  · refine (Rect.mem_set_unit (inb := oRect_inb (y 1))).mpr fun a => ?_
    match a with
    | ⟨0, _⟩ => exact ⟨Nat.zero_le _, by show (y 0).val < 0 + 4; omega⟩
    | ⟨1, _⟩ => exact ⟨Nat.le_refl _, Nat.lt_succ_self _⟩
    | ⟨2, _⟩ => exact ⟨Nat.zero_le _, by show (y 2).val < 0 + 14; omega⟩
    | ⟨3, _⟩ => exact ⟨Nat.zero_le _, by show (y 3).val < 0 + 14; omega⟩
    | ⟨4, _⟩ => exact ⟨Nat.zero_le _, by show (y 4).val < 0 + 17; omega⟩

/-! ## The body's stored values are these phases

Each theorem identifies one stored value with its phase, by computation. -/

section
variable (x1 : Vec F S4x16x16x512 .bf16) (x2 : Vec F S512x4096 .bf16) (x3 : Vec F S1x256 .f32)

theorem hPhases_0 : hPhases x1 x2 x3 0 = k0_pay5 x1 x2 x3 := rfl
theorem hPhases_1 : hPhases x1 x2 x3 1 = k0_pay7 (k0_pay6 x1 x2 x3) := rfl
theorem hPhases_2 : hPhases x1 x2 x3 2 = k0_pay8 (k0_pay3 x1 x2) (k0_pay4 x3) := rfl
theorem hPhases_3 : hPhases x1 x2 x3 3 = k0_pay9 (k0_pay3 x1 x2) (k0_pay4 x3) := rfl

variable (h : Vec F S4x4x16x16x256 .bf16) (x4 : Vec F S256x272 .bf16) (x5 : Vec F S1x17 .f32)

theorem oPhases_0 : oPhases h x4 x5 0 = k0_pay12 (k0_pay10 h x4) x5 := rfl
theorem oPhases_1 : oPhases h x4 x5 1 = k0_pay13 (k0_pay10 h x4) x5 := rfl
theorem oPhases_2 : oPhases h x4 x5 2 = k0_pay15 (k0_pay11 x5) (k0_pay14 (k0_pay10 h x4)) := rfl
theorem oPhases_3 : oPhases h x4 x5 3 = k0_pay16 (k0_pay10 h x4) (k0_pay11 x5) := rfl
theorem oPhases_4 : oPhases h x4 x5 4 = k0_pay17 (k0_pay10 h x4) (k0_pay11 x5) := rfl
theorem oPhases_5 : oPhases h x4 x5 5 = k0_pay19 (k0_pay10 h x4) (k0_pay11 x5) (k0_pay18 (k0_pay10 h x4)) := rfl
theorem oPhases_6 : oPhases h x4 x5 6 = k0_pay20 (k0_pay10 h x4) (k0_pay11 x5) := rfl
theorem oPhases_7 : oPhases h x4 x5 7 = k0_pay22 (k0_pay21 (k0_pay10 h x4) (k0_pay11 x5)) := rfl
theorem oPhases_8 : oPhases h x4 x5 8 = k0_pay23 (k0_pay10 h x4) (k0_pay11 x5) := rfl
theorem oPhases_9 : oPhases h x4 x5 9 = k0_pay24 (k0_pay10 h x4) (k0_pay11 x5) := rfl
theorem oPhases_10 : oPhases h x4 x5 10
    = k0_pay27 (k0_pay10 h x4) (k0_pay11 x5) (k0_pay25 (k0_pay10 h x4)) (k0_pay26 (k0_pay10 h x4)) := rfl
theorem oPhases_11 : oPhases h x4 x5 11 = k0_pay28 (k0_pay10 h x4) (k0_pay11 x5) := rfl
theorem oPhases_12 : oPhases h x4 x5 12 = k0_pay30 (k0_pay29 (k0_pay10 h x4) (k0_pay11 x5)) := rfl
theorem oPhases_13 : oPhases h x4 x5 13 = k0_pay31 (k0_pay10 h x4) (k0_pay11 x5) := rfl
theorem oPhases_14 : oPhases h x4 x5 14 = k0_pay32 (k0_pay10 h x4) (k0_pay11 x5) := rfl
theorem oPhases_15 : oPhases h x4 x5 15 = k0_pay1 (k0_pay33 (k0_pay10 h x4)) (k0_pay34 (k0_pay11 x5)) := rfl

end

/-! ## The run's values -/

section
variable (c : Dev nD) (i : grid0.Coords)
    (arg1 : Memref sig .tc .vmem S4x16x16x512 .bf16) (harg1 : arg1.IsWhole) (arg2 : Memref sig .tc .vmem S512x4096 .bf16) (harg2 : arg2.IsWhole)
    (arg3 : Memref sig .tc .vmem S1x256 .f32) (harg3 : arg3.IsWhole) (arg4 : Memref sig .tc .vmem S256x272 .bf16) (harg4 : arg4.IsWhole)
    (arg5 : Memref sig .tc .vmem S1x17 .f32) (harg5 : arg5.IsWhole) (arg6 : Memref sig .tc .vmem S4x16x14x14x17 .f32) (harg6 : arg6.IsWhole)
    (arg7 : Memref sig .tc .vmem S4x4x16x16x256 .bf16) (harg7 : arg7.IsWhole)
    (x1 : Vec F S4x16x16x512 .bf16) (x2 : Vec F S512x4096 .bf16) (x3 : Vec F S1x256 .f32) (x4 : Vec F S256x272 .bf16) (x5 : Vec F S1x17 .f32)
    (s : Vec F S4x4x16x16x256 .bf16)

/-- What the scratch holds when the body starts to fill it: zeros at the first point, `s` at any other. -/
def scratchBase : Vec F S4x4x16x16x256 .bf16 := if bodyRun.sl.v2 i = 1#1 then k0_pay2 else s

/-- The hidden block the run leaves in the scratch. -/
def runHidden : Vec F S4x4x16x16x256 .bf16 := hidden (hPhases x1 x2 x3) (scratchBase i s)

/-- The scratch's contents when the body starts to fill it. -/
def scratchStart : arg7.view.ty.Contents (Elt F) :=
  if hc : bodyRun.sl.v2 i = 1#1 then arg7.view.writes (Elt F) (harg7.unread s)
    [⟨Rect.unit ![0, 0, 0, 0, 0] S4x4x16x16x256.size inb_S4x4x16x16x256_S4x4x16x16x256_0_0_0_0_0, k0_pay2⟩] else harg7.unread s

/-- What the scratch reads where the filling starts. -/
theorem scratchBase_read :
    arg7.view.read (Elt F) (scratchStart i arg7 harg7 s)
      = scratchBase i s := by
  unfold scratchBase scratchStart
  split
  · exact read_whole_store _ _ _ _
  · exact harg7.read_unread s

/-- The run's four stores are the four hidden phases'. -/
theorem bodyRun_hPieces :
    bodyRun.sl.H7_4 c i arg1 harg1 arg2 harg2 arg3 harg3 arg7 harg7 x1 x2 x3 s
      = hPieces arg7.view (scratchStart i arg7 harg7 s)
          (hPhases (arg1.view.readAt (Elt F) (Rect.unit ![0, 0, 0, 0] S4x16x16x512.size inb_S4x16x16x512_S4x16x16x512_0_0_0_0).toLoadRect (harg1.unread x1))
            (arg2.view.readAt (Elt F) (Rect.unit ![0, 0] S512x4096.size inb_S512x4096_S512x4096_0_0).toLoadRect (harg2.unread x2))
            (arg3.view.readAt (Elt F) (Rect.unit ![0, 0] S1x256.size inb_S1x256_S1x256_0_0).toLoadRect (harg3.unread x3))) := by
  unfold bodyRun.sl.H7_4 hPieces hPiece
  rw [hPhases_0, hPhases_1, hPhases_2, hPhases_3]
  rfl

/-- The scratch's contents at the end of the run: those stores over the contents they were made on. -/
theorem bodyRun_scratch_writes :
    (bodyRun c i arg1 harg1 arg2 harg2 arg3 harg3 arg4 harg4 arg5 harg5 arg6 harg6 arg7 harg7 x1 x2 x3 x4 x5 s).1.2
      = arg7.view.writes (Elt F) (scratchStart i arg7 harg7 s)
          (bodyRun.sl.H7_4 c i arg1 harg1 arg2 harg2 arg3 harg3 arg7 harg7 x1 x2 x3 s) := by
  unfold bodyRun scratchStart
  with_reducible rfl

/-- The scratch at the end of the run is the hidden block. -/
theorem bodyRun_scratch :
    arg7.view.read (Elt F)
        (bodyRun c i arg1 harg1 arg2 harg2 arg3 harg3 arg4 harg4 arg5 harg5 arg6 harg6 arg7 harg7 x1 x2 x3 x4 x5 s).1.2
      = runHidden i x1 x2 x3 s := by
  rw [bodyRun_scratch_writes, bodyRun_hPieces, hPieces_read, scratchBase_read]
  unfold runHidden
  rw [View.readAt_full, View.readAt_full, View.readAt_full, harg1.read_unread, harg2.read_unread, harg3.read_unread]

/-- The run's reading of the filled scratch is the hidden block. -/
theorem bodyRun_v68 :
    bodyRun.sl.v68 c i arg1 harg1 arg2 harg2 arg3 harg3 arg7 harg7 x1 x2 x3 s = runHidden i x1 x2 x3 s := by
  have h : bodyRun.sl.v68 c i arg1 harg1 arg2 harg2 arg3 harg3 arg7 harg7 x1 x2 x3 s
      = arg7.view.readAt (Elt F) (Rect.unit ![0, 0, 0, 0, 0] S4x4x16x16x256.size inb_S4x4x16x16x256_S4x4x16x16x256_0_0_0_0_0).toLoadRect
          (arg7.view.writes (Elt F) (scratchStart i arg7 harg7 s)
            (bodyRun.sl.H7_4 c i arg1 harg1 arg2 harg2 arg3 harg3 arg7 harg7 x1 x2 x3 s)) := by
    unfold bodyRun.sl.v68 scratchStart
    with_reducible rfl
  rw [h, View.readAt_full, bodyRun_hPieces, hPieces_read, scratchBase_read]
  unfold runHidden
  rw [View.readAt_full, View.readAt_full, View.readAt_full, harg1.read_unread, harg2.read_unread, harg3.read_unread]

/-- The stores of the output block, as phases of what the scratch is read at after it is filled. -/
theorem bodyRun_pieces :
    (bodyRun c i arg1 harg1 arg2 harg2 arg3 harg3 arg4 harg4 arg5 harg5 arg6 harg6 arg7 harg7 x1 x2 x3 x4 x5 s).1.1
      = oPieces (oPhases (bodyRun.sl.v68 c i arg1 harg1 arg2 harg2 arg3 harg3 arg7 harg7 x1 x2 x3 s)
          (arg4.view.readAt (Elt F) (Rect.unit ![0, 0] S256x272.size inb_S256x272_S256x272_0_0).toLoadRect (harg4.unread x4))
          (arg5.view.readAt (Elt F) (Rect.unit ![0, 0] S1x17.size inb_S1x17_S1x17_0_0).toLoadRect (harg5.unread x5))) := by
  unfold oPieces oPiece
  rw [oPhases_0, oPhases_1, oPhases_2, oPhases_3, oPhases_4, oPhases_5, oPhases_6, oPhases_7, oPhases_8, oPhases_9,
    oPhases_10, oPhases_11, oPhases_12, oPhases_13, oPhases_14, oPhases_15]
  unfold bodyRun bodyRun.sl.r_12 bodyRun.sl.r_11 bodyRun.sl.r_10 bodyRun.sl.r_9 bodyRun.sl.r_8 bodyRun.sl.r_7 bodyRun.sl.r_6
    bodyRun.sl.r_5 bodyRun.sl.r_4 bodyRun.sl.r_3
  rfl

/-- The output block the run leaves. -/
theorem bodyRun_out (f : arg6.view.ty.Contents (Elt F)) :
    arg6.view.read (Elt F) (arg6.view.writes (Elt F) f
        (bodyRun c i arg1 harg1 arg2 harg2 arg3 harg3 arg4 harg4 arg5 harg5 arg6 harg6 arg7 harg7 x1 x2 x3 x4 x5 s).1.1)
      = outBlock (oPhases (runHidden i x1 x2 x3 s) x4 x5) := by
  rw [bodyRun_pieces, oPieces_read, View.readAt_full, View.readAt_full,
    bodyRun_v68,
    harg4.read_unread, harg5.read_unread]

end

end Cert.Kernel.Gen

end
-- ==== Proof.Point.lean ====
/- The body at one point of a grid, with the scratch's contents reduced to what later points need of them: the
   border rows and columns of the hidden block are zero, so the output block depends on the point's inputs alone. -/
module

public import proofs.«01_k».proof.Proof.Values

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch holds the zero word on the border rows and columns of each hidden image. -/
def ZeroBorder (s : Vec F S4x4x16x16x256 .bf16) : Prop :=
  ∀ y : S4x4x16x16x256.Idx, ¬((1 ≤ (y 2).val ∧ (y 2).val ≤ 14) ∧ 1 ≤ (y 3).val ∧ (y 3).val ≤ 14) → s y = k0_pay2 y

/-- The hidden block of a point: the four phases inside, zeros on the border. -/
def hiddenBlock (x1 : Vec F S4x16x16x512 .bf16) (x2 : Vec F S512x4096 .bf16) (x3 : Vec F S1x256 .f32) : Vec F S4x4x16x16x256 .bf16 :=
  hidden (hPhases x1 x2 x3) k0_pay2

/-- The output block of a point, from the point's input blocks. -/
def outPoint (x1 : Vec F S4x16x16x512 .bf16) (x2 : Vec F S512x4096 .bf16) (x3 : Vec F S1x256 .f32) (x4 : Vec F S256x272 .bf16)
    (x5 : Vec F S1x17 .f32) : Vec F S4x16x14x14x17 .f32 :=
  outBlock (oPhases (hiddenBlock x1 x2 x3) x4 x5)

/-- Of the contents the phases are stored over only the border is left. -/
theorem hidden_of_zeroBorder (H : Fin 4 → Vec F S4x1x14x14x256 .bf16) (B : Vec F S4x4x16x16x256 .bf16) (hB : ZeroBorder B) :
    hidden H B = hidden H k0_pay2 := by
  funext y
  unfold hidden
  split
  · rfl
  · exact hB y ‹_›

/-- The hidden block has a zero border. -/
theorem zeroBorder_hiddenBlock (x1 : Vec F S4x16x16x512 .bf16) (x2 : Vec F S512x4096 .bf16) (x3 : Vec F S1x256 .f32) :
    ZeroBorder (hiddenBlock x1 x2 x3) := fun y hy => by
  unfold hiddenBlock hidden
  rw [dif_neg hy]

/-- At the first point of the grid, or where the scratch has a zero border already, the run leaves the hidden block. -/
theorem runHidden_eq (i : grid0.Coords) (x1 : Vec F S4x16x16x512 .bf16) (x2 : Vec F S512x4096 .bf16) (x3 : Vec F S1x256 .f32)
    (s : Vec F S4x4x16x16x256 .bf16) (h : bodyRun.sl.v2 i = 1#1 ∨ ZeroBorder s) :
    runHidden i x1 x2 x3 s = hiddenBlock x1 x2 x3 := by
  unfold runHidden hiddenBlock scratchBase
  split
  · rfl
  · exact hidden_of_zeroBorder _ _ (h.resolve_left ‹_›)

/-- The scratch `M` before point `n` of the grid: owned at some contents, with a zero border from the second point on. -/
def scratchInv (c : Dev nD) (M : Memref sig .tc .vmem S4x4x16x16x256 .bf16) (n : ℕ) : sProp 𝕄 :=
  iprop(∃ s, ⌜0 < n → ZeroBorder s⌝ ∗ owns (c : Thread nD τ) M fullShare s)

/-- The body at point `n`: from its inputs, any output block and the scratch as the point finds it, to the inputs
    unchanged, the output block at `outPoint` and the scratch as the next point finds it, whatever else (`P`) is held. -/
theorem body_point (c : Dev nD) (i : grid0.Coords) (n : ℕ) (hi : n = 0 → bodyRun.sl.v2 i = 1#1)
    (arg1 : Memref sig .tc .vmem S4x16x16x512 .bf16) (harg1 : arg1.IsWhole) (arg2 : Memref sig .tc .vmem S512x4096 .bf16) (harg2 : arg2.IsWhole)
    (arg3 : Memref sig .tc .vmem S1x256 .f32) (harg3 : arg3.IsWhole) (arg4 : Memref sig .tc .vmem S256x272 .bf16) (harg4 : arg4.IsWhole)
    (arg5 : Memref sig .tc .vmem S1x17 .f32) (harg5 : arg5.IsWhole) (arg6 : Memref sig .tc .vmem S4x16x14x14x17 .f32) (harg6 : arg6.IsWhole)
    (arg7 : Memref sig .tc .vmem S4x4x16x16x256 .bf16) (harg7 : arg7.IsWhole)
    (x1 : Vec F S4x16x16x512 .bf16) (x2 : Vec F S512x4096 .bf16) (x3 : Vec F S1x256 .f32) (x4 : Vec F S256x272 .bf16) (x5 : Vec F S1x17 .f32)
    (P O : sProp 𝕄) {D1 D2 D3 D4 D5 D6 : Type} (d6 : D6 → Vec F S4x16x14x14x17 .f32) :
    iprop((scratchInv c arg7 n ∗ P) ∗ O ∗ (∃ _ : D1, owns (c : Thread nD τ) arg1 fullShare x1) ∗ (∃ _ : D2, owns (c : Thread nD τ) arg2 fullShare x2)
        ∗ (∃ _ : D3, owns (c : Thread nD τ) arg3 fullShare x3) ∗ (∃ _ : D4, owns (c : Thread nD τ) arg4 fullShare x4)
        ∗ (∃ _ : D5, owns (c : Thread nD τ) arg5 fullShare x5) ∗ (∃ d, owns (c : Thread nD τ) arg6 fullShare (d6 d)))
      ⊢ wp frame (wpE (defs₀ (F := F)) Variants.none c none) Set.univ
          (cc0__body i arg1 harg1 arg2 harg2 arg3 harg3 arg4 harg4 arg5 harg5 arg6 harg6 arg7 harg7)
          (fun _ => iprop((scratchInv c arg7 (n + 1) ∗ P) ∗ O ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (outPoint x1 x2 x3 x4 x5))) := by
  unfold scratchInv
  iintro ⟨⟨⟨%s, %hs, H7⟩, HP⟩, HO, ⟨%e1, H1⟩, ⟨%e2, H2⟩, ⟨%e3, H3⟩, ⟨%e4, H4⟩, ⟨%e5, H5⟩, ⟨%e6, H6⟩⟩
  have hb : bodyRun.sl.v2 i = 1#1 ∨ ZeroBorder s := by
    rcases Nat.eq_zero_or_pos n with h | h
    · exact .inl (hi h)
    · exact .inr (hs h)
  iapply ((bodyRun c i arg1 harg1 arg2 harg2 arg3 harg3 arg4 harg4 arg5 harg5 arg6 harg6 arg7 harg7 x1 x2 x3 x4 x5 s).2 Set.univ _)
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H1, H2, H3, H4, H5, ⟨%f, H6⟩, H7⟩
  isplitl [H7 HP]
  · isplitl [H7]
    · iexists (hiddenBlock x1 x2 x3)
      isplitr
      · ipureintro; exact fun _ => zeroBorder_hiddenBlock x1 x2 x3
      unfold owns; iexists _; isplitr
      swap; · iexact H7
      ipureintro
      exact (bodyRun_scratch c i arg1 harg1 arg2 harg2 arg3 harg3 arg4 harg4 arg5 harg5 arg6 harg6 arg7 harg7 x1 x2 x3 x4 x5 s).trans
        (runHidden_eq i x1 x2 x3 s hb)
    iexact HP
  isplitl [HO]; · iexact HO
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [bodyRun_out, runHidden_eq i x1 x2 x3 s hb]
  rfl

end Cert.Kernel.Gen

end
-- ==== Proof.Calls.lean ====
/- The four kernel calls: each one's proof data and its body obligation. The calls run one body, on slices of the
   batch; each obligation is the body at one point (`body_point`) at the call's own windows. -/
module

public import proofs.«01_k».proof.Proof.Point
public import proofs.«01_k».proof.Proof.Gen.Kernel.Launch
public import proofs.«01_k».proof.Proof.Gen.Kernel.Points

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a call's invariant holds beside its scratch: the other scoped buffers and the generator register. -/
abbrev scratchRest {gr W : ℕ} (spec : Fin W → Pipeline.WinSpec sig gr) (scr : Ref sig .tc) (c : Dev nD) : sProp 𝕄 :=
  iprop(Pipeline.scopedRestBut (Ix := Unit) (Name := ℕ) (U := UR sig nD τ) (Lvl := ℕ) (Val := Elt F) spec c [scr] ∗ ∃ r, prngReg c r)

/-- The first point of the grid is where the body fills the scratch with zeros. -/
theorem first_point : ∀ t : Fin grid0.N, t.val = 0 → bodyRun.sl.v2 (grid0.coords t) = 1#1 := by
  unfold bodyRun.sl.v2; decide

section Calls
variable (V : (c : Dev nD) → (b : Ref sig .tc) → Buf (Elt F) ((c : Thread nD τ).loc b))

/-! ## Call 0 -/

/-- Window `w`'s block at point `t` of call 0, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Call 0's output block at point `t`. -/
def out0 (c : Dev nD) (t : Fin cfg0.N) : Vec F S4x16x14x14x17 .f32 :=
  outPoint (blk0 V c 0 t) (blk0 V c 1 t) (blk0 V c 2 t) (blk0 V c 3 t) (blk0 V c 4 t)

/-- Call 0's proof data: after the body each input's buffer at its block, the output's at `out0`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0 V c t
  Φ t := iprop(scratchInv c (Memref.whole cc0_scratch0) t.val ∗ scratchRest spec0 cc0_scratch0 c)
  q _ := fullShare
  owed _ := 0

/-- Call 0's arrays are read as the call finds them. -/
theorem A_eq0 (c : Dev nD) (w : Fin cfg0.W) : (dat0 V c).A w = V c (Pipeline.arrRef spec0 w) := by dsimp only [dat0]

/-- An input's buffer holds its block when the body starts at any point of call 0. -/
theorem before0 (c : Dev nD) (w : Fin cfg0.W) (hw : (cfg0.win w).isOut = false) (t : Fin cfg0.N) (d) :
    (dat0 V c).before w t d = (dat0 V c).after w t :=
  match w, hw with
  | ⟨0, _⟩, _ => (dat0 V c).before_in_eq_fetched 0 rfl (fun _ => rfl) (fun _ _ _ => rfl) (fun _ => rfl) t d
  | ⟨1, _⟩, _ => (dat0 V c).before_in_eq_fetched 1 rfl (fun _ => rfl) (fun _ _ _ => rfl) (fun _ => rfl) t d
  | ⟨2, _⟩, _ => (dat0 V c).before_in_eq_fetched 2 rfl (fun _ => rfl) (fun _ _ _ => rfl) (fun _ => rfl) t d
  | ⟨3, _⟩, _ => (dat0 V c).before_in_eq_fetched 3 rfl (fun _ => rfl) (fun _ _ _ => rfl) (fun _ => rfl) t d
  | ⟨4, _⟩, _ => (dat0 V c).before_in_eq_fetched 4 rfl (fun _ => rfl) (fun _ _ _ => rfl) (fun _ => rfl) t d
  | ⟨5, _⟩, h => Bool.noConfusion (show true = false from h)

/-- Call 0's body obligation. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  simp only [before0 V c 0 rfl, before0 V c 1 rfl, before0 V c 2 rfl, before0 V c 3 rfl, before0 V c 4 rfl]
  exact triple_restated (body_point c (grid0.coords t) t.val (first_point t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (Memref.whole cc0_scratch0) (Memref.isWhole_whole _)
    (blk0 V c 0 t) (blk0 V c 1 t) (blk0 V c 2 t) (blk0 V c 3 t) (blk0 V c 4 t) (scratchRest spec0 cc0_scratch0 c)
    ((dat0 V c).owesAt () t.castSucc) ((dat0 V c).before 5 t)) rfl .rfl fun _ => .rfl

/-! ## Call 1 -/

/-- Window `w`'s block at point `t` of call 1, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Call 1's output block at point `t`. -/
def out1 (c : Dev nD) (t : Fin cfg1.N) : Vec F S4x16x14x14x17 .f32 :=
  outPoint (blk1 V c 0 t) (blk1 V c 1 t) (blk1 V c 2 t) (blk1 V c 3 t) (blk1 V c 4 t)

/-- Call 1's proof data: after the body each input's buffer at its block, the output's at `out1`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 V c t
  Φ t := iprop(scratchInv c (Memref.whole cc1_scratch0) t.val ∗ scratchRest spec1 cc1_scratch0 c)
  q _ := fullShare
  owed _ := 0

/-- Call 1's arrays are read as the call finds them. -/
theorem A_eq1 (c : Dev nD) (w : Fin cfg1.W) : (dat1 V c).A w = V c (Pipeline.arrRef spec1 w) := by dsimp only [dat1]

/-- An input's buffer holds its block when the body starts at any point of call 1. -/
theorem before1 (c : Dev nD) (w : Fin cfg1.W) (hw : (cfg1.win w).isOut = false) (t : Fin cfg1.N) (d) :
    (dat1 V c).before w t d = (dat1 V c).after w t :=
  match w, hw with
  | ⟨0, _⟩, _ => (dat1 V c).before_in_eq_fetched 0 rfl (fun _ => rfl) (fun _ _ _ => rfl) (fun _ => rfl) t d
  | ⟨1, _⟩, _ => (dat1 V c).before_in_eq_fetched 1 rfl (fun _ => rfl) (fun _ _ _ => rfl) (fun _ => rfl) t d
  | ⟨2, _⟩, _ => (dat1 V c).before_in_eq_fetched 2 rfl (fun _ => rfl) (fun _ _ _ => rfl) (fun _ => rfl) t d
  | ⟨3, _⟩, _ => (dat1 V c).before_in_eq_fetched 3 rfl (fun _ => rfl) (fun _ _ _ => rfl) (fun _ => rfl) t d
  | ⟨4, _⟩, _ => (dat1 V c).before_in_eq_fetched 4 rfl (fun _ => rfl) (fun _ _ _ => rfl) (fun _ => rfl) t d
  | ⟨5, _⟩, h => Bool.noConfusion (show true = false from h)

/-- Call 1's body obligation. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  simp only [before1 V c 0 rfl, before1 V c 1 rfl, before1 V c 2 rfl, before1 V c 3 rfl, before1 V c 4 rfl]
  exact triple_restated (body_point c (grid1.coords t) t.val (first_point t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (Memref.whole cc1_scratch0) (Memref.isWhole_whole _)
    (blk1 V c 0 t) (blk1 V c 1 t) (blk1 V c 2 t) (blk1 V c 3 t) (blk1 V c 4 t) (scratchRest spec1 cc1_scratch0 c)
    ((dat1 V c).owesAt () t.castSucc) ((dat1 V c).before 5 t)) rfl .rfl fun _ => .rfl

/-! ## Call 2 -/

/-- Window `w`'s block at point `t` of call 2, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Call 2's output block at point `t`. -/
def out2 (c : Dev nD) (t : Fin cfg2.N) : Vec F S4x16x14x14x17 .f32 :=
  outPoint (blk2 V c 0 t) (blk2 V c 1 t) (blk2 V c 2 t) (blk2 V c 3 t) (blk2 V c 4 t)

/-- Call 2's proof data: after the body each input's buffer at its block, the output's at `out2`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => out2 V c t
  Φ t := iprop(scratchInv c (Memref.whole cc2_scratch0) t.val ∗ scratchRest spec2 cc2_scratch0 c)
  q _ := fullShare
  owed _ := 0

/-- Call 2's arrays are read as the call finds them. -/
theorem A_eq2 (c : Dev nD) (w : Fin cfg2.W) : (dat2 V c).A w = V c (Pipeline.arrRef spec2 w) := by dsimp only [dat2]

/-- An input's buffer holds its block when the body starts at any point of call 2. -/
theorem before2 (c : Dev nD) (w : Fin cfg2.W) (hw : (cfg2.win w).isOut = false) (t : Fin cfg2.N) (d) :
    (dat2 V c).before w t d = (dat2 V c).after w t :=
  match w, hw with
  | ⟨0, _⟩, _ => (dat2 V c).before_in_eq_fetched 0 rfl (fun _ => rfl) (fun _ _ _ => rfl) (fun _ => rfl) t d
  | ⟨1, _⟩, _ => (dat2 V c).before_in_eq_fetched 1 rfl (fun _ => rfl) (fun _ _ _ => rfl) (fun _ => rfl) t d
  | ⟨2, _⟩, _ => (dat2 V c).before_in_eq_fetched 2 rfl (fun _ => rfl) (fun _ _ _ => rfl) (fun _ => rfl) t d
  | ⟨3, _⟩, _ => (dat2 V c).before_in_eq_fetched 3 rfl (fun _ => rfl) (fun _ _ _ => rfl) (fun _ => rfl) t d
  | ⟨4, _⟩, _ => (dat2 V c).before_in_eq_fetched 4 rfl (fun _ => rfl) (fun _ _ _ => rfl) (fun _ => rfl) t d
  | ⟨5, _⟩, h => Bool.noConfusion (show true = false from h)

/-- Call 2's body obligation. -/
theorem body_obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  simp only [before2 V c 0 rfl, before2 V c 1 rfl, before2 V c 2 rfl, before2 V c 3 rfl, before2 V c 4 rfl]
  exact triple_restated (body_point c (grid2.coords t) t.val (first_point t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (win2_5.stage (cfg2.slots t 5)) (hstage2_5 ((cfg2.slots t 5).cast nbuf2_5)) (Memref.whole cc2_scratch0) (Memref.isWhole_whole _)
    (blk2 V c 0 t) (blk2 V c 1 t) (blk2 V c 2 t) (blk2 V c 3 t) (blk2 V c 4 t) (scratchRest spec2 cc2_scratch0 c)
    ((dat2 V c).owesAt () t.castSucc) ((dat2 V c).before 5 t)) rfl .rfl fun _ => .rfl

/-! ## Call 3 -/

/-- Window `w`'s block at point `t` of call 3, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Call 3's output block at point `t`. -/
def out3 (c : Dev nD) (t : Fin cfg3.N) : Vec F S4x16x14x14x17 .f32 :=
  outPoint (blk3 V c 0 t) (blk3 V c 1 t) (blk3 V c 2 t) (blk3 V c 3 t) (blk3 V c 4 t)

/-- Call 3's proof data: after the body each input's buffer at its block, the output's at `out3`. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => out3 V c t
  Φ t := iprop(scratchInv c (Memref.whole cc3_scratch0) t.val ∗ scratchRest spec3 cc3_scratch0 c)
  q _ := fullShare
  owed _ := 0

/-- Call 3's arrays are read as the call finds them. -/
theorem A_eq3 (c : Dev nD) (w : Fin cfg3.W) : (dat3 V c).A w = V c (Pipeline.arrRef spec3 w) := by dsimp only [dat3]

/-- An input's buffer holds its block when the body starts at any point of call 3. -/
theorem before3 (c : Dev nD) (w : Fin cfg3.W) (hw : (cfg3.win w).isOut = false) (t : Fin cfg3.N) (d) :
    (dat3 V c).before w t d = (dat3 V c).after w t :=
  match w, hw with
  | ⟨0, _⟩, _ => (dat3 V c).before_in_eq_fetched 0 rfl (fun _ => rfl) (fun _ _ _ => rfl) (fun _ => rfl) t d
  | ⟨1, _⟩, _ => (dat3 V c).before_in_eq_fetched 1 rfl (fun _ => rfl) (fun _ _ _ => rfl) (fun _ => rfl) t d
  | ⟨2, _⟩, _ => (dat3 V c).before_in_eq_fetched 2 rfl (fun _ => rfl) (fun _ _ _ => rfl) (fun _ => rfl) t d
  | ⟨3, _⟩, _ => (dat3 V c).before_in_eq_fetched 3 rfl (fun _ => rfl) (fun _ _ _ => rfl) (fun _ => rfl) t d
  | ⟨4, _⟩, _ => (dat3 V c).before_in_eq_fetched 4 rfl (fun _ => rfl) (fun _ _ _ => rfl) (fun _ => rfl) t d
  | ⟨5, _⟩, h => Bool.noConfusion (show true = false from h)

/-- Call 3's body obligation. -/
theorem body_obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  simp only [before3 V c 0 rfl, before3 V c 1 rfl, before3 V c 2 rfl, before3 V c 3 rfl, before3 V c 4 rfl]
  exact triple_restated (body_point c (grid3.coords t) t.val (first_point t) (win3_0.stage (cfg3.slots t 0)) (hstage3_0 ((cfg3.slots t 0).cast nbuf3_0))
    (win3_1.stage (cfg3.slots t 1)) (hstage3_1 ((cfg3.slots t 1).cast nbuf3_1)) (win3_2.stage (cfg3.slots t 2)) (hstage3_2 ((cfg3.slots t 2).cast nbuf3_2))
    (win3_3.stage (cfg3.slots t 3)) (hstage3_3 ((cfg3.slots t 3).cast nbuf3_3)) (win3_4.stage (cfg3.slots t 4)) (hstage3_4 ((cfg3.slots t 4).cast nbuf3_4))
    (win3_5.stage (cfg3.slots t 5)) (hstage3_5 ((cfg3.slots t 5).cast nbuf3_5)) (Memref.whole cc3_scratch0) (Memref.isWhole_whole _)
    (blk3 V c 0 t) (blk3 V c 1 t) (blk3 V c 2 t) (blk3 V c 3 t) (blk3 V c 4 t) (scratchRest spec3 cc3_scratch0 c)
    ((dat3 V c).owesAt () t.castSucc) ((dat3 V c).before 5 t)) rfl .rfl fun _ => .rfl

end Calls

end Cert.Kernel.Gen

end
-- ==== Proof.Segment.lean ====
/- A kernel call as a segment of the program between host stretches, once for any of the four calls: entered from every
   unscoped buffer at a valuation, left at that valuation with the call's one output array replaced by what its
   write-backs leave. -/
module

public import proofs.«01_k».proof.Proof.Gen.Kernel.Regions
public import Idealize.ShloMosaic.Lib.Pipeline.FrameBody
public import Idealize.ShloMosaic.Lib.Pipeline.RegionsLoop
public import Idealize.ShloMosaic.Lib.Pipeline.RegionArrays
public import Idealize.ShloMosaic.Lib.Pipeline.FrameSuffix

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Proof data for the four calls. -/
abbrev PDats (F : FTy → Type) [FloatOps F] : Type :=
  (p : Fin 4) → (c : Dev nD) → Dat τ (Elt F) Unit ℕ (UR sig nD τ) ℕ (Pipeline.pin (pcfgs (F := F)) adm p) c

/-- No core owes another anything: no level is assigned. -/
abbrev L : GSem nD τ sig → Finset Unit := fun _ => ∅
abbrev lv : GSem nD τ sig → Unit → ℕ := fun _ _ => 0

/-- What rides beside the buffers: the generator register at some state, and the core owing nothing. -/
abbrev beside (c : Dev nD) : sProp 𝕄 := iprop((∃ r, prngReg c r) ∗ ∃ W, owes (c : Thread nD τ) (0 : CellTallies nD τ sig Unit) W)

/-- The thread state between two items: every unscoped buffer at `W c`, and what rides beside. -/
abbrev state (W : Dev nD → Valuation τ sig (Elt F)) (c : Dev nD) : sProp 𝕄 :=
  iprop(StableHlo.held (c : Thread nD τ) (Pipeline.ucRefs τ sig) (W c) ∗ beside c)

section
variable (pdats : PDats F) (p : Fin 4) (V : Dev nD → Valuation τ sig (Elt F)) (o : Fin (cfgs p).W)

/-- The valuation a call leaves: `V` with the output array at what the call's write-backs leave in it. -/
def callExit (c : Dev nD) : Valuation τ sig (Elt F) :=
  Function.update (V c) (Proc.devRef .tc (Pipeline.arrRef (cfgs p).spec o)) ((pdats p c).arrAt o (cfgs p).N)

/-- At the call's arrays `callExit` is what the write-backs leave. -/
theorem callExit_arr (kit : Pipeline.LaunchFacts (nD := nD) (τ := τ) cfgs p)
    (ho : ∀ w, w ≠ o → ((cfgs p).win w).isOut = false)
    (hA : ∀ c w, (pdats p c).A w = V c (Proc.devRef .tc (Pipeline.arrRef (cfgs p).spec w))) (c : Dev nD) (w : Fin (cfgs p).W) :
    (pdats p c).arrAt w (cfgs p).N = callExit pdats p V o c (Proc.devRef .tc (Pipeline.arrRef (cfgs p).spec w)) := by
  unfold callExit
  by_cases h : w = o
  · subst h; exact (Function.update_self (Proc.devRef .tc (Pipeline.arrRef (cfgs p).spec w)) ((pdats p c).arrAt w (cfgs p).N) (V c)).symm
  · rw [Function.update_of_ne (StableHlo.devRef_ne_of_ne fun e => h (kit.win.arr_inj e))]
    exact ((pdats p c).arrAt_in w (ho w h) _).trans (hA c w)

/-- At any other buffer it is what the call found. -/
theorem callExit_of_ne (c : Dev nD) (b : Ref sig .tc) (hb : b ∉ Finset.univ.image (Pipeline.arrRef (cfgs p).spec)) :
    callExit pdats p V o c (Proc.devRef .tc b) = V c (Proc.devRef .tc b) := by
  unfold callExit
  exact Function.update_of_ne (StableHlo.devRef_ne_of_ne fun e => hb (Finset.mem_image.mpr ⟨o, Finset.mem_univ _, e.symm⟩)) ..

set_option backward.isDefEq.respectTransparency.types false in
/-- A call's segment. -/
def callSeg (kit : Pipeline.LaunchFacts (nD := nD) (τ := τ) cfgs p)
    (ho : ∀ w, w ≠ o → ((cfgs p).win w).isOut = false)
    (hbody : ∀ c, BodyObligation (pdats p c) (defs₀ (F := F)) Variants.none () Set.univ)
    (howed : ∀ c t, (pdats p c).owed t = 0) (hrec : ∀ c, (pdats p c).recorded 0 = Set.univ)
    (hshare : ∀ c w, (pdats p c).share w = fullShare)
    (hA : ∀ c w, (pdats p c).A w = V c (Proc.devRef .tc (Pipeline.arrRef (cfgs p).spec w)))
    (hin : ∀ c, iprop((∃ r, prngReg c r) ∗ Pipeline.scopedRest (cfgs p).spec c) ⊢ (pdats p c).Φ 0)
    (hout : ∀ c, (pdats p c).Φ (Fin.last (cfgs p).N) ⊢ iprop((∃ r, prngReg c r) ∗ Pipeline.scopedRest (cfgs p).spec c)) :
    Pipeline.RegionSeg (pcfgs (F := F)) adm pdats () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := state V c
  post c := state (callExit pdats p V o) c
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none, Pipeline.prefHeld_of_none _ rfl]
    have hsplit := Pipeline.arrays_of_unscopedBufs (p := p) (pcfgs (F := F)) adm pdats kit.win kit.arr_whole c
      (hshare c) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := (show _ ⊢ iprop((∃ r, prngReg c r) ∗ Pipeline.scopedRest (cfgs p).spec c) from by
    iintro ⟨HX, -, Hr⟩
    isplitl [HX]; · iexact HX
    iexact Hr).trans (hin c)
  hout c := (hout c).trans (by
    rw [Pipeline.ownSems0_none]
    iintro ⟨HY, Hr⟩
    isplitl [HY]; · iexact HY
    isplitr; · iempintro
    iexact Hr)
  hexit c := by
    have hjoin := Pipeline.unscopedBufs_of_arrays (p := p) (pcfgs (F := F)) adm (Ix := Unit) (Name := ℕ) (U := UR sig nD τ) (Lvl := ℕ)
      kit.win kit.arr_whole c pdats (hshare c) (fun b => V c b) (fun b => callExit pdats p V o c b)
      ((pdats p c).arrAt · (cfgs p).N) (callExit_arr pdats p V o kit ho hA c) (callExit_of_ne pdats p V o c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end

end Cert.Kernel.Gen

end
-- ==== Proof.Run.lean ====
/- The whole program: host stretches and the four calls from the launch to the return. It ends with the arguments as
   launched, every semaphore counter at zero and the result buffer at the last valuation of the fold. -/
module

public import proofs.«01_k».proof.Proof.Calls
public import proofs.«01_k».proof.Proof.Segment

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items

`entryK` is what call K finds, `exitK` what it leaves: its output array at the call's write-backs, the rest as found. -/

abbrev entry0 (c : Dev nD) : Valuation τ sig (Elt F) := V3 m c
def exit0 (c : Dev nD) : Valuation τ sig (Elt F) :=
  Function.update (entry0 m c) (Proc.devRef .tc main_v12) ((dat0 (fun c b => entry0 m c b) c).arrAt 5 cfg0.N)
abbrev entry1 (c : Dev nD) : Valuation τ sig (Elt F) := StableHlo.after hostOps1 (exit0 m c)
def exit1 (c : Dev nD) : Valuation τ sig (Elt F) :=
  Function.update (entry1 m c) (Proc.devRef .tc main_v17) ((dat1 (fun c b => entry1 m c b) c).arrAt 5 cfg1.N)
abbrev entry2 (c : Dev nD) : Valuation τ sig (Elt F) := StableHlo.after hostOps2 (exit1 m c)
def exit2 (c : Dev nD) : Valuation τ sig (Elt F) :=
  Function.update (entry2 m c) (Proc.devRef .tc main_v22) ((dat2 (fun c b => entry2 m c b) c).arrAt 5 cfg2.N)
abbrev entry3 (c : Dev nD) : Valuation τ sig (Elt F) := StableHlo.after hostOps3 (exit2 m c)
def exit3 (c : Dev nD) : Valuation τ sig (Elt F) :=
  Function.update (entry3 m c) (Proc.devRef .tc main_v27) ((dat3 (fun c b => entry3 m c b) c).arrAt 5 cfg3.N)
/-- The contents at the return. -/
abbrev final (c : Dev nD) : Valuation τ sig (Elt F) := StableHlo.after hostOps4 (exit3 m c)

/-- What the calls leave, as the fold over all the items takes it. -/
def left : Outs (F := F) := fun j r c => match j with
  | 4 => exit0 m c r
  | 6 => exit1 m c r
  | 8 => exit2 m c r
  | _ => exit3 m c r

/-- After call 0 the fold over the items holds `exit0`. -/
theorem V4_left (c : Dev nD) : V4 m (left m) c = exit0 m c := by
  show Function.update (V3 m c) _ (exit0 m c main_v12) = exit0 m c
  unfold exit0; rw [Function.update_self]
/-- After call 1 it holds `exit1`. -/
theorem V6_left (c : Dev nD) : V6 m (left m) c = exit1 m c := by
  show Function.update (StableHlo.after hostOps1 (V4 m (left m) c)) _ (exit1 m c main_v17) = exit1 m c
  rw [V4_left]; unfold exit1; rw [Function.update_self]
/-- After call 2 it holds `exit2`. -/
theorem V8_left (c : Dev nD) : V8 m (left m) c = exit2 m c := by
  show Function.update (StableHlo.after hostOps2 (V6 m (left m) c)) _ (exit2 m c main_v22) = exit2 m c
  rw [V6_left]; unfold exit2; rw [Function.update_self]
/-- After call 3 it holds `exit3`. -/
theorem V10_left (c : Dev nD) : V10 m (left m) c = exit3 m c := by
  show Function.update (StableHlo.after hostOps3 (V8 m (left m) c)) _ (exit3 m c main_v27) = exit3 m c
  rw [V8_left]; unfold exit3; rw [Function.update_self]
/-- At the return it holds `final`. -/
theorem V11_left (c : Dev nD) : V11 m (left m) c = final m c := by
  show StableHlo.after hostOps4 (V10 m (left m) c) = _
  rw [V10_left]

/-! ## The items as segments -/

/-- Each call's proof data at what the call finds. -/
def pdats : PDats F
  | ⟨0, _⟩ => fun c => dat0 (fun c b => entry0 m c b) c
  | ⟨1, _⟩ => fun c => dat1 (fun c b => entry1 m c b) c
  | ⟨2, _⟩ => fun c => dat2 (fun c b => entry2 m c b) c
  | ⟨3, _⟩ => fun c => dat3 (fun c b => entry3 m c b) c

/-- Entering a call: the generator register and the scoped buffers, split at the call's scratch, are its invariant at point 0. -/
theorem enter_call (c : Dev nD) (scr : Memref sig .tc .vmem S4x4x16x16x256 .bf16) (G R S P : sProp 𝕄)
    (hS : S = iprop((∃ s, owns (c : Thread nD τ) scr fullShare s) ∗ R)) (hP : P = iprop(scratchInv c scr 0 ∗ R ∗ G)) : iprop(G ∗ S) ⊢ P := by
  rw [hS, hP]
  unfold scratchInv
  iintro ⟨Hp, ⟨%s, Hs⟩, Hr⟩
  isplitl [Hs]
  · iexists s; isplitr
    · ipureintro; exact fun h => absurd h (Nat.lt_irrefl 0)
    iexact Hs
  isplitl [Hr]; · iexact Hr
  iexact Hp

/-- Leaving a call: its invariant at any point gives the register and the scoped buffers back. -/
theorem leave_call (c : Dev nD) (scr : Memref sig .tc .vmem S4x4x16x16x256 .bf16) (n : ℕ) (G R S P : sProp 𝕄)
    (hS : S = iprop((∃ s, owns (c : Thread nD τ) scr fullShare s) ∗ R)) (hP : P = iprop(scratchInv c scr n ∗ R ∗ G)) : P ⊢ iprop(G ∗ S) := by
  rw [hS, hP]
  unfold scratchInv
  iintro ⟨⟨%s, -, Hs⟩, Hr, Hp⟩
  isplitl [Hp]; · iexact Hp
  isplitl [Hs]; · iexists s; iexact Hs
  iexact Hr

set_option backward.isDefEq.respectTransparency.types false in
/-- Call 0 as a segment. -/
def call0 : Pipeline.RegionSeg (pcfgs (F := F)) adm (pdats m) () defs₀ Variants.none L lv 0 :=
  callSeg (pdats m) 0 (entry0 m) (5 : Fin 6) launch0 (by decide) (fun c => body_obligation0 (fun c b => entry0 m c b) c)
    (fun _ _ => rfl) (fun _ => rfl) (fun c => (pdats m 0 c).share_full fun _ => rfl) (fun c w => A_eq0 (fun c b => entry0 m c b) c w)
    (fun c => enter_call c (Memref.whole cc0_scratch0) _ _ _ _ ((scopedRest0_split c).trans (by simp only [owns_whole]; rfl)) rfl)
    (fun c => leave_call c (Memref.whole cc0_scratch0) _ _ _ _ _ ((scopedRest0_split c).trans (by simp only [owns_whole]; rfl)) rfl)

set_option backward.isDefEq.respectTransparency.types false in
/-- Call 1 as a segment. -/
def call1 : Pipeline.RegionSeg (pcfgs (F := F)) adm (pdats m) () defs₀ Variants.none L lv 1 :=
  callSeg (pdats m) 1 (entry1 m) (5 : Fin 6) launch1 (by decide) (fun c => body_obligation1 (fun c b => entry1 m c b) c)
    (fun _ _ => rfl) (fun _ => rfl) (fun c => (pdats m 1 c).share_full fun _ => rfl) (fun c w => A_eq1 (fun c b => entry1 m c b) c w)
    (fun c => enter_call c (Memref.whole cc1_scratch0) _ _ _ _ ((scopedRest1_split c).trans (by simp only [owns_whole]; rfl)) rfl)
    (fun c => leave_call c (Memref.whole cc1_scratch0) _ _ _ _ _ ((scopedRest1_split c).trans (by simp only [owns_whole]; rfl)) rfl)

set_option backward.isDefEq.respectTransparency.types false in
/-- Call 2 as a segment. -/
def call2 : Pipeline.RegionSeg (pcfgs (F := F)) adm (pdats m) () defs₀ Variants.none L lv 2 :=
  callSeg (pdats m) 2 (entry2 m) (5 : Fin 6) launch2 (by decide) (fun c => body_obligation2 (fun c b => entry2 m c b) c)
    (fun _ _ => rfl) (fun _ => rfl) (fun c => (pdats m 2 c).share_full fun _ => rfl) (fun c w => A_eq2 (fun c b => entry2 m c b) c w)
    (fun c => enter_call c (Memref.whole cc2_scratch0) _ _ _ _ ((scopedRest2_split c).trans (by simp only [owns_whole]; rfl)) rfl)
    (fun c => leave_call c (Memref.whole cc2_scratch0) _ _ _ _ _ ((scopedRest2_split c).trans (by simp only [owns_whole]; rfl)) rfl)

set_option backward.isDefEq.respectTransparency.types false in
/-- Call 3 as a segment. -/
def call3 : Pipeline.RegionSeg (pcfgs (F := F)) adm (pdats m) () defs₀ Variants.none L lv 3 :=
  callSeg (pdats m) 3 (entry3 m) (5 : Fin 6) launch3 (by decide) (fun c => body_obligation3 (fun c b => entry3 m c b) c)
    (fun _ _ => rfl) (fun _ => rfl) (fun c => (pdats m 3 c).share_full fun _ => rfl) (fun c w => A_eq3 (fun c b => entry3 m c b) c w)
    (fun c => enter_call c (Memref.whole cc3_scratch0) _ _ _ _ ((scopedRest3_split c).trans (by simp only [owns_whole]; rfl)) rfl)
    (fun c => leave_call c (Memref.whole cc3_scratch0) _ _ _ _ _ ((scopedRest3_split c).trans (by simp only [owns_whole]; rfl)) rfl)

/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- The program's items in order. -/
abbrev items : List (Pipeline.Seg (pcfgs (F := F)) adm (pdats m) () defs₀ Variants.none L lv) :=
  [ .host (hostSeg hostOps0 hostOps0_sub hostOps0_fresh (V0 m)),
    .host (hostSeg hostOps0_1 hostOps0_1_sub hostOps0_1_fresh (V1 m)),
    .host (hostSeg hostOps0_2 hostOps0_2_sub hostOps0_2_fresh (V2 m)),
    .region (call0 m),
    .host (hostSeg hostOps1 hostOps1_sub hostOps1_fresh (exit0 m)),
    .region (call1 m),
    .host (hostSeg hostOps2 hostOps2_sub hostOps2_fresh (exit1 m)),
    .region (call2 m),
    .host (hostSeg hostOps3 hostOps3_sub hostOps3_fresh (exit2 m)),
    .region (call3 m),
    .host (hostSeg hostOps4 hostOps4_sub hostOps4_fresh (exit3 m)) ]

/-- The program is its items run in order. -/
theorem main_items (c : Dev nD) : main (F := F) c = Pipeline.Seg.run (items m) := (main_chain c).trans (by chain_rfl)

/-- An unscoped buffer is among those the thread state holds. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every run from memory `m` with zero counters ends, with every buffer outside the calls at `final` and every counter
    at zero. -/
theorem run_final : θ_run defs (onTc (τ := τ) (main (F := F))) ⟨m, fun _ => 0, ρ⟩ (fun r =>
      (∀ c : Dev nD, ∀ b ∈ Pipeline.ucRefs τ sig, r.2.mem (((c : Thread nD τ)).1, b) = final m c b) ∧ r.2.sem = fun _ => 0) :=
  Pipeline.θ_run_regions_kit_sems (pcfgs (F := F)) adm (pdats m) () cellOf_inj emb₁ defs₀ Variants.none L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (V0 m))
    (Tₙ := fun c => iprop(StableHlo.held (c : Thread nD τ) (Pipeline.ucRefs τ sig) (final m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = final m c b)
    (hfin := fun c s' => by
      iintro ⟨⟨Hh, -⟩, HSI⟩
      unfold StableHlo.held
      imodintro
      iapply (pointsTo_read_all (Pipeline.ucRefs τ sig) (fun b => (((c : Thread nD τ)).1, b)) (final m c) s')
      isplitl [Hh] <;> iassumption)
    (hQ := fun s h hz => ⟨h, funext fun g => hz g (.inr (regions_no_unscoped g.2))⟩)

/-- Every run ends with the arguments as launched, the result buffer at `final` and every counter at zero. -/
theorem run_result : θ_run defs (onTc (τ := τ) (main (F := F))) ⟨m, fun _ => 0, ρ⟩ (fun r =>
      (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v31) = final m c main_v31)
      ∧ r.2.sem = fun _ => 0) :=
  (θ_run defs _ _).mono (fun r h => ⟨fun c =>
    have arg (b : Ref sig .tc) (hb : ¬ (Proc.devRef .tc b : DevRef τ sig).isScoped)
        (hv : V11 m (left m) c (Proc.devRef .tc b) = m ((c : Thread nD τ).loc b)) :
        r.2.mem ((c.tc : Thread nD τ).loc b) = m ((c.tc : Thread nD τ).loc b) :=
      (h.1 c _ (mem_ucRefs b hb)).trans ((congrFun (V11_left m c) _).symm.trans hv)
    ⟨⟨arg main_arg0 (by decide) (V11_main_arg0 m (left m) c), arg main_arg1 (by decide) (V11_main_arg1 m (left m) c),
      arg main_arg2 (by decide) (V11_main_arg2 m (left m) c), arg main_arg3 (by decide) (V11_main_arg3 m (left m) c),
      arg main_arg4 (by decide) (V11_main_arg4 m (left m) c)⟩, h.1 c _ (mem_ucRefs main_v31 (by decide))⟩, h.2⟩) (run_final m ρ)

end Cert.Kernel.Gen

end
-- ==== Proof.Array.lean ====
/- The output array of each kernel call after its run, as one function of the arrays the call reads. -/
module

public import proofs.«01_k».proof.Proof.Run
public import Idealize.ShloMosaic.Lib.Pipeline.ValueKit

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four images of point `t` of a call, of the call's 32. -/
def images (X : Vec F S32x16x16x512 .bf16) (t : Fin 8) : Vec F S4x16x16x512 .bf16 :=
  fun z => X (ix4 ⟨4 * t.val + (z 0).val, by have := (z 0).isLt; have := t.isLt; simp at *; omega⟩ (z 1) (z 2) (z 3))

/-- A call's output array: image `n` is the image `n % 4` of what point `n / 4` computes. -/
def callOut (X : Vec F S32x16x16x512 .bf16) (w1 : Vec F S512x4096 .bf16) (b1 : Vec F S1x256 .f32) (w2 : Vec F S256x272 .bf16)
    (b2 : Vec F S1x17 .f32) : Vec F S32x16x14x14x17 .f32 :=
  fun y => outPoint (images X ⟨(y 0).val / 4, by have := (y 0).isLt; simp at *; omega⟩) w1 b1 w2 b2
    (ix5 ⟨(y 0).val % 4, Nat.mod_lt _ (by decide)⟩ (y 1) (y 2) (y 3) (y 4))

/-- A block of four images from point `t`'s rows of the batch is `images`. -/
theorem images_at (X : Vec F S32x16x16x512 .bf16) (t : Fin 8) (em : S4x16x16x512.Idx → S32x16x16x512.Idx)
    (h : ∀ z a, (em z a).val = (![t.val, 0, 0, 0] : Fin 4 → ℕ) a * S4x16x16x512.size a + (z a).val) : (fun z => X (em z)) = images X t := by
  funext z
  unfold images
  congr 1
  refine funext fun a => Fin.ext ?_
  rw [h]
  fin_cases a <;> simp [ix4, Nat.mul_comm]

/-- A block at the origin, as large as its array, is the array. -/
theorem whole_at {S : Shape} {e : EltTy} (W : Vec F S e) (em : S.Idx → S.Idx) (h : ∀ z a, (em z a).val = (z a).val) :
    (fun z => W (em z)) = W := by
  funext z
  congr 1
  refine funext fun a => Fin.ext ?_
  rw [h]

/-- `callOut` where the block of point `t` places its index `y`. -/
theorem callOut_at (X : Vec F S32x16x16x512 .bf16) (w1 : Vec F S512x4096 .bf16) (b1 : Vec F S1x256 .f32) (w2 : Vec F S256x272 .bf16)
    (b2 : Vec F S1x17 .f32) (t : Fin 8) (i : S32x16x14x14x17.Idx) (y : S4x16x14x14x17.Idx)
    (h : ∀ a, (i a).val = (![t.val, 0, 0, 0, 0] : Fin 5 → ℕ) a * S4x16x14x14x17.size a + (y a).val) :
    outPoint (images X t) w1 b1 w2 b2 y = callOut X w1 b1 w2 b2 i := by
  have h0 : (i 0).val = t.val * 4 + (y 0).val := h 0
  have hy : (y 0).val < 4 := (y 0).isLt
  unfold callOut
  congr 1
  · congr 1; exact Fin.ext (by show t.val = (i 0).val / 4; omega)
  · refine funext fun a => Fin.ext ?_
    have ha := h a
    fin_cases a
    · show (y 0).val = (i 0).val % 4; omega
    all_goals simp [ix5] at ha ⊢; exact ha.symm

/-- What a point computes from its blocks is `callOut` of the arrays, at the place of the output block's index. -/
theorem point_at (X : Vec F S32x16x16x512 .bf16) (w1 : Vec F S512x4096 .bf16) (b1 : Vec F S1x256 .f32) (w2 : Vec F S256x272 .bf16)
    (b2 : Vec F S1x17 .f32) (t : Fin 8) {x1 : Vec F S4x16x16x512 .bf16} {x2 : Vec F S512x4096 .bf16} {x3 : Vec F S1x256 .f32}
    {x4 : Vec F S256x272 .bf16} {x5 : Vec F S1x17 .f32} {i : S32x16x14x14x17.Idx} {y : S4x16x14x14x17.Idx}
    (e1 : S4x16x16x512.Idx → S32x16x16x512.Idx) (e2 : S512x4096.Idx → S512x4096.Idx) (e3 : S1x256.Idx → S1x256.Idx)
    (e4 : S256x272.Idx → S256x272.Idx) (e5 : S1x17.Idx → S1x17.Idx)
    (h1 : x1 = fun z => X (e1 z)) (h2 : x2 = fun z => w1 (e2 z)) (h3 : x3 = fun z => b1 (e3 z)) (h4 : x4 = fun z => w2 (e4 z))
    (h5 : x5 = fun z => b2 (e5 z)) (g1 : ∀ z a, (e1 z a).val = (![t.val, 0, 0, 0] : Fin 4 → ℕ) a * S4x16x16x512.size a + (z a).val)
    (g2 : ∀ z a, (e2 z a).val = (z a).val) (g3 : ∀ z a, (e3 z a).val = (z a).val) (g4 : ∀ z a, (e4 z a).val = (z a).val)
    (g5 : ∀ z a, (e5 z a).val = (z a).val)
    (h : ∀ a, (i a).val = (![t.val, 0, 0, 0, 0] : Fin 5 → ℕ) a * S4x16x14x14x17.size a + (y a).val) :
    outPoint x1 x2 x3 x4 x5 y = callOut X w1 b1 w2 b2 i := by
  rw [h1, h2, h3, h4, h5, images_at X t e1 g1, whole_at w1 e2 g2, whole_at b1 e3 g3, whole_at w2 e4 g4, whole_at b2 e5 g5]
  exact callOut_at X w1 b1 w2 b2 t i y h

section Calls
variable (V : (c : Dev nD) → (b : Ref sig .tc) → Buf (Elt F) ((c : Thread nD τ).loc b))

/-- Where call 0's blocks lie at point `t`: the images and the output in the rows of `t`, the rest at the origin. -/
theorem index0 : ∀ t : Fin cfg0.N, (∀ a, win0_0.index t a = (![t.val, 0, 0, 0] : Fin 4 → ℕ) a)
    ∧ (∀ a, win0_1.index t a = 0) ∧ (∀ a, win0_2.index t a = 0) ∧ (∀ a, win0_3.index t a = 0) ∧ (∀ a, win0_4.index t a = 0)
    ∧ (∀ a, win0_5.index t a = (![t.val, 0, 0, 0, 0] : Fin 5 → ℕ) a) := by
  decide +kernel

/-- Call 0's output array after its run. -/
theorem arr0 (c : Dev nD) : (dat0 V c).arrAt 5 cfg0.N = callOut (V c main_v11) (V c main_v2) (V c main_v6) (V c main_v5) (V c main_v7) := by
  refine (dat0 V c).arrAt_eq_of_covers 5 _ (by decide +kernel) fun t hf y => ?_
  obtain ⟨i0, i1, i2, i3, i4, i5⟩ := index0 t
  blk_simp
  refine point_at _ _ _ _ _ t _ _ _ _ _ rfl rfl rfl rfl rfl (fun z a => ?_) (fun z a => ?_) (fun z a => ?_) (fun z a => ?_) (fun z a => ?_) fun a => ?_
    <;> blk_simp <;> simp only [i0, i1, i2, i3, i4, i5, Nat.zero_mul, Nat.zero_add]

/-- Where call 1's blocks lie at point `t`: the images and the output in the rows of `t`, the rest at the origin. -/
theorem index1 : ∀ t : Fin cfg1.N, (∀ a, win1_0.index t a = (![t.val, 0, 0, 0] : Fin 4 → ℕ) a)
    ∧ (∀ a, win1_1.index t a = 0) ∧ (∀ a, win1_2.index t a = 0) ∧ (∀ a, win1_3.index t a = 0) ∧ (∀ a, win1_4.index t a = 0)
    ∧ (∀ a, win1_5.index t a = (![t.val, 0, 0, 0, 0] : Fin 5 → ℕ) a) := by
  decide +kernel

/-- Call 1's output array after its run. -/
theorem arr1 (c : Dev nD) : (dat1 V c).arrAt 5 cfg1.N = callOut (V c main_v16) (V c main_v2) (V c main_v6) (V c main_v5) (V c main_v7) := by
  refine (dat1 V c).arrAt_eq_of_covers 5 _ (by decide +kernel) fun t hf y => ?_
  obtain ⟨i0, i1, i2, i3, i4, i5⟩ := index1 t
  blk_simp
  refine point_at _ _ _ _ _ t _ _ _ _ _ rfl rfl rfl rfl rfl (fun z a => ?_) (fun z a => ?_) (fun z a => ?_) (fun z a => ?_) (fun z a => ?_) fun a => ?_
    <;> blk_simp <;> simp only [i0, i1, i2, i3, i4, i5, Nat.zero_mul, Nat.zero_add]

/-- Where call 2's blocks lie at point `t`: the images and the output in the rows of `t`, the rest at the origin. -/
theorem index2 : ∀ t : Fin cfg2.N, (∀ a, win2_0.index t a = (![t.val, 0, 0, 0] : Fin 4 → ℕ) a)
    ∧ (∀ a, win2_1.index t a = 0) ∧ (∀ a, win2_2.index t a = 0) ∧ (∀ a, win2_3.index t a = 0) ∧ (∀ a, win2_4.index t a = 0)
    ∧ (∀ a, win2_5.index t a = (![t.val, 0, 0, 0, 0] : Fin 5 → ℕ) a) := by
  decide +kernel

/-- Call 2's output array after its run. -/
theorem arr2 (c : Dev nD) : (dat2 V c).arrAt 5 cfg2.N = callOut (V c main_v21) (V c main_v2) (V c main_v6) (V c main_v5) (V c main_v7) := by
  refine (dat2 V c).arrAt_eq_of_covers 5 _ (by decide +kernel) fun t hf y => ?_
  obtain ⟨i0, i1, i2, i3, i4, i5⟩ := index2 t
  blk_simp
  refine point_at _ _ _ _ _ t _ _ _ _ _ rfl rfl rfl rfl rfl (fun z a => ?_) (fun z a => ?_) (fun z a => ?_) (fun z a => ?_) (fun z a => ?_) fun a => ?_
    <;> blk_simp <;> simp only [i0, i1, i2, i3, i4, i5, Nat.zero_mul, Nat.zero_add]

/-- Where call 3's blocks lie at point `t`: the images and the output in the rows of `t`, the rest at the origin. -/
theorem index3 : ∀ t : Fin cfg3.N, (∀ a, win3_0.index t a = (![t.val, 0, 0, 0] : Fin 4 → ℕ) a)
    ∧ (∀ a, win3_1.index t a = 0) ∧ (∀ a, win3_2.index t a = 0) ∧ (∀ a, win3_3.index t a = 0) ∧ (∀ a, win3_4.index t a = 0)
    ∧ (∀ a, win3_5.index t a = (![t.val, 0, 0, 0, 0] : Fin 5 → ℕ) a) := by
  decide +kernel

/-- Call 3's output array after its run. -/
theorem arr3 (c : Dev nD) : (dat3 V c).arrAt 5 cfg3.N = callOut (V c main_v26) (V c main_v2) (V c main_v6) (V c main_v5) (V c main_v7) := by
  refine (dat3 V c).arrAt_eq_of_covers 5 _ (by decide +kernel) fun t hf y => ?_
  obtain ⟨i0, i1, i2, i3, i4, i5⟩ := index3 t
  blk_simp
  refine point_at _ _ _ _ _ t _ _ _ _ _ rfl rfl rfl rfl rfl (fun z a => ?_) (fun z a => ?_) (fun z a => ?_) (fun z a => ?_) (fun z a => ?_) fun a => ?_
    <;> blk_simp <;> simp only [i0, i1, i2, i3, i4, i5, Nat.zero_mul, Nat.zero_add]

end Calls

end Cert.Kernel.Gen
-- ==== Proof.Spec.lean ====
/- The two transposed convolutions as plain sums over taps and channels, stated of functions and independent of either
   program: stride 2, padding 1, a 4x4 kernel. Each output pixel takes four of the sixteen taps. -/
module

public import Idealize.ShloMosaic.Lib.Pointwise

@[expose] public section

noncomputable section

namespace Cert.Spec

/-- An image of `D` by `D` pixels with zeros all around it: pixel `(r, s)` sits at `(r + 1, s + 1)`. -/
def bordered (D : ℕ) (X : Fin D → Fin D → EReal) (q p : ℕ) : EReal :=
  if h : (1 ≤ q ∧ q ≤ D) ∧ 1 ≤ p ∧ p ≤ D then X ⟨q - 1, by omega⟩ ⟨p - 1, by omega⟩ else 0

/-- The row (or column) of the 4x4 kernel that tap `u` of parity `e` uses. -/
def tapAt (e u : Fin 2) : Fin 4 := ⟨1 - e.val + 2 * u.val, by omega⟩

/-- Tap `(u, v)` of the output pixel `(2 m + e, 2 l + f)`: a sum over the input's channels. -/
def tap {D K : ℕ} (X : Fin K → Fin D → Fin D → EReal) (W : Fin K → Fin 4 → Fin 4 → EReal) (m l : ℕ) (e f u v : Fin 2) : EReal :=
  ∑ k, bordered D (X k) (m + 1 + e.val - u.val) (l + 1 + f.val - v.val) * W k (tapAt e u) (tapAt f v)

/-- The output pixel `(2 m + e, 2 l + f)` of one transposed convolution at one output channel. -/
def phase {D K : ℕ} (X : Fin K → Fin D → Fin D → EReal) (W : Fin K → Fin 4 → Fin 4 → EReal) (b : EReal) (m l : ℕ) (e f : Fin 2) : EReal :=
  tap X W m l e f 0 0 + tap X W m l e f 0 1 + tap X W m l e f 1 0 + tap X W m l e f 1 1 + b

/-- The parity of a coordinate. -/
def parity (i : ℕ) : Fin 2 := ⟨i % 2, Nat.mod_lt _ (by decide)⟩

/-- One transposed convolution at one output channel, at the output pixel `(i, j)`. -/
def layer {D K : ℕ} (X : Fin K → Fin D → Fin D → EReal) (W : Fin K → Fin 4 → Fin 4 → EReal) (b : EReal) (i j : ℕ) : EReal :=
  phase X W b (i / 2) (j / 2) (parity i) (parity j)

/-- The hidden image of one input image: 28 by 28, at channel `k`. -/
def hiddenImage (X : Fin 512 → Fin 14 → Fin 14 → EReal) (W1 : Fin 512 → Fin 256 → Fin 4 → Fin 4 → EReal) (B1 : Fin 256 → EReal)
    (k : Fin 256) (q p : Fin 28) : EReal :=
  layer X (fun c => W1 c k) (B1 k) q.val p.val

/-- Both layers, at the output pixel `(i, j)` of channel `o`. -/
def twoLayers (X : Fin 512 → Fin 14 → Fin 14 → EReal) (W1 : Fin 512 → Fin 256 → Fin 4 → Fin 4 → EReal) (B1 : Fin 256 → EReal)
    (W2 : Fin 256 → Fin 17 → Fin 4 → Fin 4 → EReal) (B2 : Fin 17 → EReal) (o : Fin 17) (i j : ℕ) : EReal :=
  layer (hiddenImage X W1 B1) (fun k => W2 k o) (B2 o) i j

/-- Inside the border: the image. -/
theorem bordered_inside {D : ℕ} (X : Fin D → Fin D → EReal) (r s : Fin D) (q p : ℕ) (hq : q = r.val + 1) (hp : p = s.val + 1) :
    bordered D X q p = X r s := by
  subst hq hp
  unfold bordered
  rw [dif_pos (by omega)]
  rfl

/-- On the border and beyond it: zero. -/
theorem bordered_outside {D : ℕ} (X : Fin D → Fin D → EReal) (q p : ℕ) (h : ¬((1 ≤ q ∧ q ≤ D) ∧ 1 ≤ p ∧ p ≤ D)) :
    bordered D X q p = 0 := dif_neg h

/-- A layer at a pixel written by its phase. -/
theorem layer_phase {D K : ℕ} (X : Fin K → Fin D → Fin D → EReal) (W : Fin K → Fin 4 → Fin 4 → EReal) (b : EReal) (i j m l : ℕ) (e f : Fin 2)
    (hi : i = 2 * m + e.val) (hj : j = 2 * l + f.val) : layer X W b i j = phase X W b m l e f := by
  unfold layer
  rw [show i / 2 = m by omega, show j / 2 = l by omega, show parity i = e from Fin.ext (by simp [parity]; omega),
    show parity j = f from Fin.ext (by simp [parity]; omega)]

/-! ## The sixteen taps over the dilated image -/

/-- An image dilated by the stride: pixel `(r, s)` at `(2 r + 2, 2 s + 2)`, zeros elsewhere. -/
def dilated (D : ℕ) (X : Fin D → Fin D → EReal) (q p : ℕ) : EReal := if q % 2 = 0 ∧ p % 2 = 0 then bordered D X (q / 2) (p / 2) else 0

/-- The window's tap `(a, b)` at the output pixel `(i, j)`: the kernel is turned by half a turn. -/
def windowTap {D K : ℕ} (X : Fin K → Fin D → Fin D → EReal) (W : Fin K → Fin 4 → Fin 4 → EReal) (i j : ℕ) (a b : Fin 4) : EReal :=
  ∑ k, dilated D (X k) (i + a.val) (j + b.val) * W k a.rev b.rev

/-- The window position of the tap `u` of parity `e`. -/
def windowAt (e u : Fin 2) : Fin 4 := ⟨2 * (1 - u.val) + e.val, by omega⟩

/-- The kernel position of a window's place, counted from the other end, is the tap's. -/
theorem windowAt_rev : ∀ e u : Fin 2, (windowAt e u).rev = tapAt e u := by decide

/-- A window tap that falls between the image's rows or columns is zero. -/
theorem windowTap_between {D K : ℕ} (X : Fin K → Fin D → Fin D → EReal) (W : Fin K → Fin 4 → Fin 4 → EReal) (i j : ℕ) (a b : Fin 4)
    (h : ¬((i + a.val) % 2 = 0 ∧ (j + b.val) % 2 = 0)) : windowTap X W i j a b = 0 :=
  Finset.sum_eq_zero fun k _ => by rw [dilated, if_neg h, zero_mul]

/-- A window tap that falls on the image's rows and columns is a tap of the pixel's phase. -/
theorem windowTap_on {D K : ℕ} (X : Fin K → Fin D → Fin D → EReal) (W : Fin K → Fin 4 → Fin 4 → EReal) (m l : ℕ) (e f u v : Fin 2) :
    windowTap X W (2 * m + e.val) (2 * l + f.val) (windowAt e u) (windowAt f v) = tap X W m l e f u v := by
  unfold windowTap tap
  refine Finset.sum_congr rfl fun k _ => ?_
  rw [windowAt_rev, windowAt_rev]
  unfold dilated windowAt
  rw [if_pos (by simp only; omega)]
  congr 2 <;> (simp only; omega)

/-- Of four window positions two are of a pixel's parity. -/
theorem sum_four_of_parity (g : Fin 4 → EReal) (e : Fin 2) (h : ∀ a : Fin 4, (e.val + a.val) % 2 ≠ 0 → g a = 0) :
    ∑ a, g a = g (windowAt e 0) + g (windowAt e 1) := by
  rw [Fin.sum_univ_four]
  match e, h with
  | 0, h => rw [h 1 (by decide), h 3 (by decide), add_zero, add_zero, add_comm]; rfl
  | 1, h => rw [h 0 (by decide), h 2 (by decide), zero_add, add_zero, add_comm]; rfl

/-- The sixteen window taps add to the four taps of the pixel's phase: the layer before its bias. -/
theorem layer_eq_windowTaps {D K : ℕ} (X : Fin K → Fin D → Fin D → EReal) (W : Fin K → Fin 4 → Fin 4 → EReal) (b : EReal) (i j : ℕ) :
    (∑ a, ∑ b, windowTap X W i j a b) + b = layer X W b i j := by
  obtain ⟨m, e, hi⟩ : ∃ (m : ℕ) (e : Fin 2), i = 2 * m + e.val := ⟨i / 2, parity i, by simp [parity]; omega⟩
  obtain ⟨l, f, hj⟩ : ∃ (l : ℕ) (f : Fin 2), j = 2 * l + f.val := ⟨j / 2, parity j, by simp [parity]; omega⟩
  subst hi hj
  rw [layer_phase X W b _ _ m l e f rfl rfl, sum_four_of_parity _ e, sum_four_of_parity _ f, sum_four_of_parity _ f]
  · simp only [windowTap_on, phase, add_assoc]
  · exact fun c hc => windowTap_between X W _ _ _ _ (by omega)
  · exact fun c hc => windowTap_between X W _ _ _ _ (by omega)
  · exact fun c hc => Finset.sum_eq_zero fun d _ => windowTap_between X W _ _ _ _ (by omega)

/-- Sixteen terms added one after the other, as a double sum. -/
theorem sum_sixteen (T : Fin 4 → Fin 4 → EReal) :
    T 0 0 + T 0 1 + T 0 2 + T 0 3 + T 1 0 + T 1 1 + T 1 2 + T 1 3 + T 2 0 + T 2 1 + T 2 2 + T 2 3 + T 3 0 + T 3 1 + T 3 2 + T 3 3
      = ∑ a, ∑ b, T a b := by
  simp only [Fin.sum_univ_four, add_assoc]

end Cert.Spec
-- ==== Proof.KernelMath.lean ====
/- The kernel body over the reals: a point's output block is the two transposed convolutions of the point's images. -/
module

public import proofs.«01_k».proof.Proof.Point
public import proofs.«01_k».proof.Proof.Spec

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec

/-! ## The two products -/

/-- The first product at an index: the padded input times a column of the weights. -/
theorem pay3_apply (x1 : Vec Ideal S4x16x16x512 .bf16) (x2 : Vec Ideal S512x4096 .bf16) (n : Fin 4) (R C : Fin 16) (l : Fin 4096) :
    k0_pay3 x1 x2 (ix4 n R C l) = ∑ k : Fin 512, x1 (ix4 n R C k) * x2 (ix2 k l) := by
  pointwise [k0_pay3]

/-- The second product at an index: the hidden block times a column of the weights. -/
theorem pay10_apply (h : Vec Ideal S4x4x16x16x256 .bf16) (w : Vec Ideal S256x272 .bf16) (n p : Fin 4) (R C : Fin 16) (l : Fin 272) :
    k0_pay10 h w (ix5 n p R C l) = ∑ k : Fin 256, h (ix5 n p R C k) * w (ix2 k l) := by
  pointwise [k0_pay10]

/-- The border's word is zero. -/
theorem pay2_apply (y : S4x4x16x16x256.Idx) : k0_pay2 (F := Ideal) y = 0 := by
  pointwise [k0_pay2]

/-! ## What a call's inputs hold

Four images `X` with their channels last and a border of zeros; the weights with a column for each kernel position and
output channel; the biases as rows. -/

/-- The padded images. -/
def HoldsImages (x1 : Vec Ideal S4x16x16x512 .bf16) (X : Fin 4 → Fin 512 → Fin 14 → Fin 14 → EReal) : Prop :=
  ∀ n R C k, x1 (ix4 n R C k) = bordered 14 (X n k) R.val C.val
/-- The first layer's weights. -/
def HoldsW1 (x2 : Vec Ideal S512x4096 .bf16) (W1 : Fin 512 → Fin 256 → Fin 4 → Fin 4 → EReal) : Prop :=
  ∀ k ch (a b : Fin 4) (l : Fin 4096), l.val = (a.val * 4 + b.val) * 256 + ch.val → x2 (ix2 k l) = W1 k ch a b
/-- The first layer's bias. -/
def HoldsB1 (x3 : Vec Ideal S1x256 .f32) (B1 : Fin 256 → EReal) : Prop := ∀ ch, x3 (ix2 0 ch) = B1 ch
/-- The second layer's weights. -/
def HoldsW2 (x4 : Vec Ideal S256x272 .bf16) (W2 : Fin 256 → Fin 17 → Fin 4 → Fin 4 → EReal) : Prop :=
  ∀ k o (a b : Fin 4) (l : Fin 272), l.val = (a.val * 4 + b.val) * 17 + o.val → x4 (ix2 k l) = W2 k o a b
/-- The second layer's bias. -/
def HoldsB2 (x5 : Vec Ideal S1x17 .f32) (B2 : Fin 17 → EReal) : Prop := ∀ o, x5 (ix2 0 o) = B2 o

section Point
variable {x1 : Vec Ideal S4x16x16x512 .bf16} {x2 : Vec Ideal S512x4096 .bf16} {x3 : Vec Ideal S1x256 .f32}
  {x4 : Vec Ideal S256x272 .bf16} {x5 : Vec Ideal S1x17 .f32} {X : Fin 4 → Fin 512 → Fin 14 → Fin 14 → EReal}
  {W1 : Fin 512 → Fin 256 → Fin 4 → Fin 4 → EReal} {B1 : Fin 256 → EReal} {W2 : Fin 256 → Fin 17 → Fin 4 → Fin 4 → EReal} {B2 : Fin 17 → EReal}

/-- One tap of a hidden phase, read in the first product. -/
theorem hTap_eq (hX : HoldsImages x1 X) (hW : HoldsW1 x2 W1) (e f u v : Fin 2) (n : Fin 4) (r s : Fin 14) (ch : Fin 256)
    (n' : Fin 4) (R C : Fin 16) (l : Fin 4096) (hn : n'.val = hOff e f u v 0 + n.val) (hR : R.val = hOff e f u v 1 + r.val)
    (hC : C.val = hOff e f u v 2 + s.val) (hl : l.val = hOff e f u v 3 + ch.val) :
    k0_pay3 x1 x2 (ix4 n' R C l) = tap (X n) (fun k => W1 k ch) r.val s.val e f u v := by
  simp [hOff] at hn hR hC hl
  rw [pay3_apply, tap, show n' = n from Fin.ext hn]
  refine Finset.sum_congr rfl fun k _ => ?_
  rw [hX, hW k ch (tapAt e u) (tapAt f v) l hl, hR, hC, show 1 + e.val - u.val + r.val = r.val + 1 + e.val - u.val by omega,
    show 1 + f.val - v.val + s.val = s.val + 1 + f.val - v.val by omega]

/-- A hidden phase is the first layer at the pixels of that phase. -/
theorem hPhase_eq (hX : HoldsImages x1 X) (hW : HoldsW1 x2 W1) (hB : HoldsB1 x3 B1) (e f : Fin 2) (n : Fin 4) (r s : Fin 14) (ch : Fin 256) :
    hPhase (k0_pay3 x1 x2) (k0_pay4 x3) e f (ix5 n 0 r s ch) = phase (X n) (fun k => W1 k ch) (B1 ch) r.val s.val e f := by
  pointwise [hPhase, k0_pay4]
  rw [hTap_eq hX hW e f 0 0 n r s ch _ _ _ _ rfl rfl rfl rfl, hTap_eq hX hW e f 0 1 n r s ch _ _ _ _ rfl rfl rfl rfl,
    hTap_eq hX hW e f 1 0 n r s ch _ _ _ _ rfl rfl rfl rfl, hTap_eq hX hW e f 1 1 n r s ch _ _ _ _ rfl rfl rfl rfl, hB]
  rfl

/-- The hidden block at phase `p`, row `R` and column `C` (border included) is the bordered hidden image at the pixel
    that the phase puts there. -/
theorem hiddenBlock_eq (hX : HoldsImages x1 X) (hW : HoldsW1 x2 W1) (hB : HoldsB1 x3 B1) (n p : Fin 4) (R C : Fin 16) (ch : Fin 256) :
    hiddenBlock x1 x2 x3 (ix5 n p R C ch)
      = bordered 28 (hiddenImage (X n) W1 B1 ch) (2 * R.val + p.val / 2 - 1) (2 * C.val + p.val % 2 - 1) := by
  unfold hiddenBlock hidden
  by_cases h : (1 ≤ R.val ∧ R.val ≤ 14) ∧ 1 ≤ C.val ∧ C.val ≤ 14
  · rw [dif_pos (by exact h)]
    refine (hPhase_eq hX hW hB (bitHi p) (bitLo p) n ⟨R.val - 1, by omega⟩ ⟨C.val - 1, by omega⟩ ch).trans ?_
    rw [bordered_inside _ ⟨2 * (R.val - 1) + p.val / 2, by omega⟩ ⟨2 * (C.val - 1) + p.val % 2, by omega⟩ _ _ (by simp; omega) (by simp; omega)]
    exact (layer_phase _ _ _ _ _ _ _ (bitHi p) (bitLo p) rfl rfl).symm
  · rw [dif_neg (by exact h), pay2_apply, bordered_outside _ _ _ (by omega)]

/-- One tap of an output phase, read in the second product. -/
theorem oTap_eq (hX : HoldsImages x1 X) (hW : HoldsW1 x2 W1) (hB : HoldsB1 x3 B1) (hV : HoldsW2 x4 W2) (fh gh fw gw u v : Fin 2)
    (n : Fin 4) (r s : Fin 14) (o : Fin 17) (n' p : Fin 4) (R C : Fin 16) (l : Fin 272) (hn : n'.val = oOff fh gh fw gw u v 0 + n.val)
    (hp : p.val = oOff fh gh fw gw u v 1) (hR : R.val = oOff fh gh fw gw u v 2 + r.val)
    (hC : C.val = oOff fh gh fw gw u v 3 + s.val) (hl : l.val = oOff fh gh fw gw u v 4 + o.val) :
    k0_pay10 (hiddenBlock x1 x2 x3) x4 (ix5 n' p R C l)
      = tap (hiddenImage (X n) W1 B1) (fun k => W2 k o) (2 * r.val + gh.val) (2 * s.val + gw.val) fh fw u v := by
  simp [oOff] at hn hp hR hC hl
  rw [pay10_apply, tap, show n' = n from Fin.ext hn]
  refine Finset.sum_congr rfl fun k _ => ?_
  rw [hiddenBlock_eq hX hW hB, hV k o (tapAt fh u) (tapAt fw v) l hl,
    show 2 * R.val + p.val / 2 - 1 = 2 * r.val + gh.val + 1 + fh.val - u.val by omega,
    show 2 * C.val + p.val % 2 - 1 = 2 * s.val + gw.val + 1 + fw.val - v.val by omega]

/-- An output phase is both layers at the pixels of that phase. -/
theorem oPhase_eq (hX : HoldsImages x1 X) (hW : HoldsW1 x2 W1) (hB : HoldsB1 x3 B1) (hV : HoldsW2 x4 W2) (hD : HoldsB2 x5 B2)
    (fh gh fw gw : Fin 2) (n : Fin 4) (r s : Fin 14) (o : Fin 17) :
    oPhase (k0_pay10 (hiddenBlock x1 x2 x3) x4) (k0_pay11 x5) fh gh fw gw (ix5 n 0 r s o)
      = phase (hiddenImage (X n) W1 B1) (fun k => W2 k o) (B2 o) (2 * r.val + gh.val) (2 * s.val + gw.val) fh fw := by
  pointwise [oPhase, oTap, k0_pay11]
  rw [oTap_eq hX hW hB hV fh gh fw gw 0 0 n r s o _ _ _ _ _ rfl rfl rfl rfl rfl, oTap_eq hX hW hB hV fh gh fw gw 0 1 n r s o _ _ _ _ _ rfl rfl rfl rfl rfl,
    oTap_eq hX hW hB hV fh gh fw gw 1 0 n r s o _ _ _ _ _ rfl rfl rfl rfl rfl, oTap_eq hX hW hB hV fh gh fw gw 1 1 n r s o _ _ _ _ _ rfl rfl rfl rfl rfl, hD]
  rfl

/-- A point's output block: phase `ph` at `(r, s)` is both layers at the pixel that the four bits of `ph` name. -/
theorem outPoint_eq (hX : HoldsImages x1 X) (hW : HoldsW1 x2 W1) (hB : HoldsB1 x3 B1) (hV : HoldsW2 x4 W2) (hD : HoldsB2 x5 B2)
    (n : Fin 4) (ph : Fin 16) (r s : Fin 14) (o : Fin 17) :
    outPoint x1 x2 x3 x4 x5 (ix5 n ph r s o)
      = twoLayers (X n) W1 B1 W2 B2 o (4 * r.val + 2 * (ph.val / 4 % 2) + ph.val / 8) (4 * s.val + 2 * (ph.val % 2) + ph.val / 2 % 2) := by
  unfold outPoint outBlock oPhases
  refine (oPhase_eq hX hW hB hV hD (bit3 ph) (bit2 ph) (bit1 ph) (bit0 ph) n r s o).trans ?_
  refine (layer_phase _ _ _ _ _ _ _ _ _ ?_ ?_).symm
  · simp [bit3, bit2]; omega
  · simp [bit1, bit0]; omega

end Point

end Cert.Kernel.Gen
-- ==== Proof.HostMath.lean ====
/- What the host prepares for the four calls and makes of their outputs, as functions of the arguments, and the whole
   program's result over the reals. -/
module

public import proofs.«01_k».proof.Proof.Array
public import proofs.«01_k».proof.Proof.KernelMath

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-! ## The host's functions -/

/-- The first layer's weights, a column for each kernel position and hidden channel. -/
def prepW1 (w : FVec F S512x256x4x4 .f32) : FVec F S512x4096 .bf16 :=
  truncf .bf16 (shapeCast S512x4096 (transpose S512x4x4x256 [0, 2, 3, 1] w transposes_S512x256x4x4_S512x4x4x256_0_2_3_1) shapeCasts_S512x4x4x256_S512x4096) bitsLt_bf16_f32
/-- The second layer's weights, a column for each kernel position and output channel. -/
def prepW2 (w : FVec F S256x17x4x4 .f32) : FVec F S256x272 .bf16 :=
  truncf .bf16 (shapeCast S256x272 (transpose S256x4x4x17 [0, 2, 3, 1] w transposes_S256x17x4x4_S256x4x4x17_0_2_3_1) shapeCasts_S256x4x4x17_S256x272) bitsLt_bf16_f32
/-- The biases as rows. -/
def prepB1 (b : FVec F S256 .f32) : FVec F S1x256 .f32 := shapeCast S1x256 b shapeCasts_S256_S1x256
/-- The second bias as a row. -/
def prepB2 (b : FVec F S17 .f32) : FVec F S1x17 .f32 := shapeCast S1x17 b shapeCasts_S17_S1x17
/-- The images, channels last, with a border of zeros. -/
def prepX (x : FVec F S128x512x14x14 .f32) : FVec F S128x16x16x512 .bf16 :=
  truncf .bf16 (pad S128x16x16x512 ![0, 1, 1, 0] ![0, 1, 1, 0] ![0, 0, 0, 0] (transpose S128x14x14x512 [0, 2, 3, 1] x transposes_S128x512x14x14_S128x14x14x512_0_2_3_1)
    (sitofp .f32 (constantI S_ 32 0#32)) pads_S128x14x14x512_S128x16x16x512_000_110_110_000 h_S_) bitsLt_bf16_f32
/-- Each call's 32 images lie within the batch. -/
theorem slab_slices : ∀ k : Fin 4, S128x16x16x512.Slices ![32 * k.val, 0, 0, 0] S32x16x16x512 := by decide
/-- The 32 images of call `k`. -/
def slab (k : Fin 4) (X : FVec F S128x16x16x512 .bf16) : FVec F S32x16x16x512 .bf16 :=
  extractStridedSlice S32x16x16x512 ![32 * k.val, 0, 0, 0] X (slab_slices k)
/-- A call's output with its sixteen phases interleaved, channels second. -/
def placed (O : FVec F S32x16x14x14x17 .f32) : FVec F S32x17x56x56 .f32 :=
  shapeCast S32x17x56x56 (transpose S32x17x14x2x2x14x2x2 [0, 7, 5, 2, 1, 6, 4, 3] (shapeCast S32x2x2x2x2x14x14x17 O shapeCasts_S32x16x14x14x17_S32x2x2x2x2x14x14x17)
    transposes_S32x2x2x2x2x14x14x17_S32x17x14x2x2x14x2x2_0_7_5_2_1_6_4_3) shapeCasts_S32x17x14x2x2x14x2x2_S32x17x56x56

/-- One call's part of the result. -/
def part (k : Fin 4) (x : FVec F S128x512x14x14 .f32) (w1 : FVec F S512x256x4x4 .f32) (b1 : FVec F S256 .f32) (w2 : FVec F S256x17x4x4 .f32)
    (b2 : FVec F S17 .f32) : FVec F S32x17x56x56 .f32 :=
  placed (callOut (slab k (prepX x)) (prepW1 w1) (prepB1 b1) (prepW2 w2) (prepB2 b2))
/-- The result: the four parts along the batch. -/
def wholeResult (x : FVec F S128x512x14x14 .f32) (w1 : FVec F S512x256x4x4 .f32) (b1 : FVec F S256 .f32) (w2 : FVec F S256x17x4x4 .f32)
    (b2 : FVec F S17 .f32) : FVec F S128x17x56x56 .f32 :=
  concatenate S128x17x56x56 0 [⟨S32x17x56x56, part 0 x w1 b1 w2 b2⟩, ⟨S32x17x56x56, part 1 x w1 b1 w2 b2⟩, ⟨S32x17x56x56, part 2 x w1 b1 w2 b2⟩,
    ⟨S32x17x56x56, part 3 x w1 b1 w2 b2⟩] concatenates_S32x17x56x56_S32x17x56x56_S32x17x56x56_S32x17x56x56_S128x17x56x56_d0

/-! ## At an index, over the reals -/

/-- The integer zero as a float. -/
theorem sitofp_zero : (FloatOps.sitofp (F := Ideal) .f32 0#32) = (0 : EReal) := by
  show (((BitVec.toInt 0#32 : ℤ) : ℝ) : EReal) = 0
  simp

/-- The padded images have the images inside a border of zeros. -/
theorem prepX_apply (x : FVec Ideal S128x512x14x14 .f32) (n : Fin 128) (R C : Fin 16) (k : Fin 512) :
    prepX x (ix4 n R C k) = bordered 14 (fun r s => x (ix4 n k r s)) R.val C.val := by
  pointwise [prepX]
  unfold bordered
  rw [sitofp_zero]
  split_ifs <;> first | rfl | (exfalso; omega)

/-- The prepared weights of the first layer hold each kernel position and output channel in its column. -/
theorem prepW1_holds (w : FVec Ideal S512x256x4x4 .f32) : HoldsW1 (prepW1 w) (fun k ch a b => w (ix4 k ch a b)) := fun k ch a b l hl => by
  pointwise [prepW1]
  refine congrArg w ?_
  congr 1 <;> exact Fin.ext (by dsimp only; omega)

/-- So do those of the second layer. -/
theorem prepW2_holds (w : FVec Ideal S256x17x4x4 .f32) : HoldsW2 (prepW2 w) (fun k o a b => w (ix4 k o a b)) := fun k o a b l hl => by
  pointwise [prepW2]
  refine congrArg w ?_
  congr 1 <;> exact Fin.ext (by dsimp only; omega)

/-- The first bias as a row. -/
theorem prepB1_holds (b : FVec Ideal S256 .f32) : HoldsB1 (prepB1 b) (fun k => b (ix1 k)) := fun k => by
  pointwise [prepB1]

/-- The second bias as a row. -/
theorem prepB2_holds (b : FVec Ideal S17 .f32) : HoldsB2 (prepB2 b) (fun o => b (ix1 o)) := fun o => by
  pointwise [prepB2]

/-- Image `n` of call `k` in the whole batch. -/
def imageAt (k : Fin 4) (n : Fin 32) : Fin 128 := ⟨32 * k.val + n.val, by omega⟩

/-- The image of call `k` that is image `n` of its point `t`. -/
def imageOf (t : Fin 8) (n : Fin 4) : Fin 32 := ⟨4 * t.val + n.val, by omega⟩

/-- Point `t` of call `k` holds its four images, channels last, with a border of zeros. -/
theorem images_hold (x : FVec Ideal S128x512x14x14 .f32) (k : Fin 4) (t : Fin 8) :
    HoldsImages (images (slab k (prepX x)) t) (fun n c r s => x (ix4 (imageAt k (imageOf t n)) c r s)) := fun n R C ch => by
  show slab k (prepX x) (ix4 (imageOf t n) R C ch) = _
  generalize hX : prepX x = X
  pointwise [slab]
  subst hX
  exact prepX_apply x _ R C ch

/-- Interleaving reads phase, row and column off the pixel's coordinates. -/
theorem placed_apply (O : FVec Ideal S32x16x14x14x17 .f32) (n : Fin 32) (o : Fin 17) (i j : Fin 56) :
    placed O (ix4 n o i j) = O (ix5 n ⟨i.val % 2 * 8 + i.val / 2 % 2 * 4 + j.val % 2 * 2 + j.val / 2 % 2, by omega⟩ ⟨i.val / 4, by omega⟩ ⟨j.val / 4, by omega⟩ o) := by
  pointwise [placed]

/-- The four bits of a phase's number. -/
theorem bits_of (a b c d : ℕ) (ha : a < 2) (hb : b < 2) (hc : c < 2) (hd : d < 2) :
    (a * 8 + b * 4 + c * 2 + d) / 8 = a ∧ (a * 8 + b * 4 + c * 2 + d) / 4 % 2 = b ∧ (a * 8 + b * 4 + c * 2 + d) / 2 % 2 = c
      ∧ (a * 8 + b * 4 + c * 2 + d) % 2 = d := by
  refine ⟨?_, ?_, ?_, ?_⟩ <;> omega

section Result
variable (x : FVec Ideal S128x512x14x14 .f32) (w1 : FVec Ideal S512x256x4x4 .f32) (b1 : FVec Ideal S256 .f32) (w2 : FVec Ideal S256x17x4x4 .f32)
  (b2 : FVec Ideal S17 .f32)

/-- What the result holds of one image: both layers of it. -/
abbrev resultAt (n : Fin 128) (o : Fin 17) (i j : Fin 56) : EReal :=
  twoLayers (fun c r s => x (ix4 n c r s)) (fun c k a b => w1 (ix4 c k a b)) (fun k => b1 (ix1 k)) (fun k o a b => w2 (ix4 k o a b))
    (fun o => b2 (ix1 o)) o i.val j.val

/-- A part holds both layers of the call's images. -/
theorem part_apply (k : Fin 4) (n : Fin 32) (o : Fin 17) (i j : Fin 56) :
    part k x w1 b1 w2 b2 (ix4 n o i j) = resultAt x w1 b1 w2 b2 (imageAt k n) o i j := by
  obtain ⟨e3, e2, e1, e0⟩ := bits_of (i.val % 2) (i.val / 2 % 2) (j.val % 2) (j.val / 2 % 2) (by omega) (by omega) (by omega) (by omega)
  unfold part
  rw [placed_apply]
  refine (outPoint_eq (images_hold x k ⟨n.val / 4, by omega⟩) (prepW1_holds w1) (prepB1_holds b1) (prepW2_holds w2) (prepB2_holds b2)
    ⟨n.val % 4, Nat.mod_lt _ (by decide)⟩ ⟨i.val % 2 * 8 + i.val / 2 % 2 * 4 + j.val % 2 * 2 + j.val / 2 % 2, by omega⟩
    ⟨i.val / 4, by omega⟩ ⟨j.val / 4, by omega⟩ o).trans ?_
  unfold resultAt
  congr 1
  · funext c r s
    exact congrArg (fun q => x (ix4 q c r s)) (Fin.ext (by simp only [imageAt, imageOf]; omega))
  · dsimp only; rw [e3, e2]; omega
  · dsimp only; rw [e1, e0]; omega

/-- The result holds both layers of every image. -/
theorem wholeResult_apply (n : Fin 128) (o : Fin 17) (i j : Fin 56) :
    wholeResult x w1 b1 w2 b2 (ix4 n o i j) = resultAt x w1 b1 w2 b2 n o i j := by
  have h := fun k m => part_apply x w1 b1 w2 b2 k m o i j
  unfold wholeResult
  pointwise
  split_ifs <;> rw [h] <;> exact congrArg (fun q => resultAt x w1 b1 w2 b2 q o i j) (Fin.ext (by simp [imageAt]; try omega))

end Result

end Cert.Kernel.Gen
-- ==== Proof.Final.lean ====
/- What the result buffer holds at the return, read through the host stretches and the calls' output arrays. -/
module

public import proofs.«01_k».proof.Proof.HostMath

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! ## What the first call finds -/

/-- The first layer's weights. -/
theorem entry0_w1 : entry0 m c main_v2 = prepW1 (m ((c : Thread nD τ).loc main_arg1)) := by
  refine (V3_of m c _ (by decide)).trans ((V2_of m c _ (by decide)).trans ?_)
  after_results
  rfl
/-- The second layer's weights. -/
theorem entry0_w2 : entry0 m c main_v5 = prepW2 (m ((c : Thread nD τ).loc main_arg3)) := by
  refine (V3_of m c _ (by decide)).trans ((V2_of m c _ (by decide)).trans ?_)
  after_results
  rfl
/-- The first layer's bias. -/
theorem entry0_b1 : entry0 m c main_v6 = prepB1 (m ((c : Thread nD τ).loc main_arg2)) := by
  refine (V3_of m c _ (by decide)).trans ((V2_of m c _ (by decide)).trans ?_)
  after_results
  rfl
/-- The second layer's bias. -/
theorem entry0_b2 : entry0 m c main_v7 = prepB2 (m ((c : Thread nD τ).loc main_arg4)) := by
  refine (V3_of m c _ (by decide)).trans ((V2_of m c _ (by decide)).trans ?_)
  after_results
  rfl
/-- The images, channels last. -/
theorem V1_images : V1 m c main_v8 = transpose S128x14x14x512 [0, 2, 3, 1] (m ((c : Thread nD τ).loc main_arg0)) transposes_S128x512x14x14_S128x14x14x512_0_2_3_1 := by
  after_results
/-- The padding's integer zero. -/
theorem V1_zero : V1 m c main_c = constantI S_ 32 0#32 := by
  after_results
/-- The padded images before rounding. -/
theorem V2_padded : V2 m c main_v9 = pad S128x16x16x512 ![0, 1, 1, 0] ![0, 1, 1, 0] ![0, 0, 0, 0] (V1 m c main_v8) (sitofp .f32 (V1 m c main_c : IVec S_ 32)) pads_S128x14x14x512_S128x16x16x512_000_110_110_000 h_S_ := by
  unfold V2
  generalize V1 m c = W
  after_results
  rfl
/-- The padded images. -/
theorem entry0_x : entry0 m c main_v10 = prepX (m ((c : Thread nD τ).loc main_arg0)) := by
  have h : entry0 m c main_v10 = truncf .bf16 (V2 m c main_v9 : FVec F S128x16x16x512 .f32) bitsLt_bf16_f32 := by
    unfold entry0 V3
    generalize V2 m c = W
    after_results
  rw [h, V2_padded, V1_images, V1_zero]
  rfl
/-- The first call's images. -/
theorem entry0_slab : entry0 m c main_v11 = slab 0 (entry0 m c main_v10) := by
  unfold entry0 V3
  generalize V2 m c = W
  after_results
  rfl

/-! ## What every call finds -/

/-- The buffers that the first stretch prepares and every call reads. -/
abbrev prepared : List (Ref sig .tc) := [main_v2, main_v5, main_v6, main_v7, main_v10]

/-- The contents `W` hold the prepared weights, biases and images. -/
structure Prepared (W : Valuation τ sig (Elt F)) : Prop where
  w1 : W main_v2 = prepW1 (m ((c : Thread nD τ).loc main_arg1))
  w2 : W main_v5 = prepW2 (m ((c : Thread nD τ).loc main_arg3))
  b1 : W main_v6 = prepB1 (m ((c : Thread nD τ).loc main_arg2))
  b2 : W main_v7 = prepB2 (m ((c : Thread nD τ).loc main_arg4))
  x : W main_v10 = prepX (m ((c : Thread nD τ).loc main_arg0))

/-- Contents that agree on those buffers hold them as well. -/
theorem Prepared.of_eq {V W : Valuation τ sig (Elt F)} (hV : Prepared m c V) (h : ∀ r ∈ prepared, W r = V r) : Prepared m c W :=
  ⟨(h _ (by decide)).trans hV.w1, (h _ (by decide)).trans hV.w2, (h _ (by decide)).trans hV.b1, (h _ (by decide)).trans hV.b2,
    (h _ (by decide)).trans hV.x⟩

/-- The output of call `k`. -/
abbrev outOf (k : Fin 4) : FVec F S32x16x14x14x17 .f32 :=
  callOut (slab k (prepX (m ((c : Thread nD τ).loc main_arg0)))) (prepW1 (m ((c : Thread nD τ).loc main_arg1))) (prepB1 (m ((c : Thread nD τ).loc main_arg2)))
    (prepW2 (m ((c : Thread nD τ).loc main_arg3))) (prepB2 (m ((c : Thread nD τ).loc main_arg4)))

/-- A call that starts from prepared contents, with its images cut from prepared contents `V`, computes `outOf`. -/
theorem Prepared.callOut_eq {V W : Valuation τ sig (Elt F)} (hV : Prepared m c V) (hW : Prepared m c W) (k : Fin 4)
    {X : Vec F S32x16x16x512 .bf16} (hX : X = slab k (V main_v10)) :
    callOut X (W main_v2) (W main_v6) (W main_v5) (W main_v7) = outOf m c k := by
  rw [hX, hV.x, hW.w1, hW.w2, hW.b1, hW.b2]

/-- A host stretch after a call changes only what it writes and the call's output `o`. -/
theorem after_call (ops : List (HloOp τ sig (Elt F))) {ws : List (Ref sig .tc)}
    (hw : ops.Forall fun op => op.writes ⊆ (ws.map (Proc.devRef (τ := τ) .tc)).toFinset)
    (V : Valuation τ sig (Elt F)) (o : Ref sig .tc) (x : Buf (Elt F) ((c : Thread nD τ).loc o)) (r : Ref sig .tc) (h : r ∉ o :: ws) :
    StableHlo.after ops (Function.update V (Proc.devRef .tc o) x) r = V r :=
  (StableHlo.after_of_writes_sub ops _ hw (List.not_mem_of_not_mem_cons h)).trans
    (Function.update_of_ne (StableHlo.devRef_ne_of_ne (List.ne_of_not_mem_cons h)) ..)

/-- The first call finds everything prepared. -/
theorem prepared0 : Prepared m c (entry0 m c) := ⟨entry0_w1 m c, entry0_w2 m c, entry0_b1 m c, entry0_b2 m c, entry0_x m c⟩

/-- What call 1 finds as call 0 found it. -/
theorem entry1_of (r : Ref sig .tc) (h : r ∉ main_v12 :: hostOps1_W) : entry1 m c r = entry0 m c r :=
  after_call c hostOps1 hostOps1_writes (entry0 m c) main_v12 _ r h
/-- Call 1 finds everything prepared. -/
theorem prepared1 : Prepared m c (entry1 m c) := (prepared0 m c).of_eq m c fun r hr => entry1_of m c r (by revert r; decide)
/-- Call 1's images, cut by the stretch before it. -/
theorem slab1 (W : Valuation τ sig (Elt F)) : StableHlo.after hostOps1 W main_v16 = slab 1 (W main_v10) := by
  after_results
  rfl
/-- The same stretch interleaves call 0's output. -/
theorem placed1 (W : Valuation τ sig (Elt F)) : StableHlo.after hostOps1 W main_v15 = placed (W main_v12) := by
  after_results
  rfl

/-- What call 2 finds as call 1 found it. -/
theorem entry2_of (r : Ref sig .tc) (h : r ∉ main_v17 :: hostOps2_W) : entry2 m c r = entry1 m c r :=
  after_call c hostOps2 hostOps2_writes (entry1 m c) main_v17 _ r h
/-- Call 2 finds everything prepared. -/
theorem prepared2 : Prepared m c (entry2 m c) := (prepared1 m c).of_eq m c fun r hr => entry2_of m c r (by revert r; decide)
/-- Call 2's images, cut by the stretch before it. -/
theorem slab2 (W : Valuation τ sig (Elt F)) : StableHlo.after hostOps2 W main_v21 = slab 2 (W main_v10) := by
  after_results
  rfl
/-- The same stretch interleaves call 1's output. -/
theorem placed2 (W : Valuation τ sig (Elt F)) : StableHlo.after hostOps2 W main_v20 = placed (W main_v17) := by
  after_results
  rfl

/-- What call 3 finds as call 2 found it. -/
theorem entry3_of (r : Ref sig .tc) (h : r ∉ main_v22 :: hostOps3_W) : entry3 m c r = entry2 m c r :=
  after_call c hostOps3 hostOps3_writes (entry2 m c) main_v22 _ r h
/-- Call 3 finds everything prepared. -/
theorem prepared3 : Prepared m c (entry3 m c) := (prepared2 m c).of_eq m c fun r hr => entry3_of m c r (by revert r; decide)
/-- Call 3's images, cut by the stretch before it. -/
theorem slab3 (W : Valuation τ sig (Elt F)) : StableHlo.after hostOps3 W main_v26 = slab 3 (W main_v10) := by
  after_results
  rfl
/-- The same stretch interleaves call 2's output. -/
theorem placed3 (W : Valuation τ sig (Elt F)) : StableHlo.after hostOps3 W main_v25 = placed (W main_v22) := by
  after_results
  rfl

/-! ## The calls' outputs -/

/-- Call 0's output. -/
theorem exit0_out : exit0 m c main_v12 = outOf m c 0 :=
  (Function.update_self ..).trans ((arr0 _ c).trans ((prepared0 m c).callOut_eq m c (prepared0 m c) 0 (entry0_slab m c)))
/-- Call 1's output. -/
theorem exit1_out : exit1 m c main_v17 = outOf m c 1 :=
  (Function.update_self ..).trans ((arr1 _ c).trans ((prepared0 m c).callOut_eq m c (prepared1 m c) 1
      ((slab1 _).trans (congrArg (slab 1) (Function.update_of_ne (StableHlo.devRef_ne_of_ne (by decide)) ..)))))
/-- Call 2's output. -/
theorem exit2_out : exit2 m c main_v22 = outOf m c 2 :=
  (Function.update_self ..).trans ((arr2 _ c).trans ((prepared1 m c).callOut_eq m c (prepared2 m c) 2
      ((slab2 _).trans (congrArg (slab 2) (Function.update_of_ne (StableHlo.devRef_ne_of_ne (by decide)) ..)))))
/-- Call 3's output. -/
theorem exit3_out : exit3 m c main_v27 = outOf m c 3 :=
  (Function.update_self ..).trans ((arr3 _ c).trans ((prepared2 m c).callOut_eq m c (prepared3 m c) 3
      ((slab3 _).trans (congrArg (slab 3) (Function.update_of_ne (StableHlo.devRef_ne_of_ne (by decide)) ..)))))

/-! ## The result -/

/-- Call 3 leaves what it found but for its output. -/
theorem exit3_of (r : Ref sig .tc) (h : r ≠ main_v27) : exit3 m c r = entry3 m c r := by
  unfold exit3
  exact Function.update_of_ne (StableHlo.devRef_ne_of_ne h) ..

/-- The result buffer holds the four calls' parts. -/
theorem final_result : final m c main_v31 = wholeResult (m ((c : Thread nD τ).loc main_arg0)) (m ((c : Thread nD τ).loc main_arg1))
    (m ((c : Thread nD τ).loc main_arg2)) (m ((c : Thread nD τ).loc main_arg3)) (m ((c : Thread nD τ).loc main_arg4)) := by
  have h : final m c main_v31 = concatenate S128x17x56x56 0 [⟨S32x17x56x56, (exit3 m c main_v15 : FVec F S32x17x56x56 .f32)⟩,
      ⟨S32x17x56x56, (exit3 m c main_v20 : FVec F S32x17x56x56 .f32)⟩, ⟨S32x17x56x56, (exit3 m c main_v25 : FVec F S32x17x56x56 .f32)⟩,
      ⟨S32x17x56x56, placed (exit3 m c main_v27)⟩] concatenates_S32x17x56x56_S32x17x56x56_S32x17x56x56_S32x17x56x56_S128x17x56x56_d0 := by
    unfold final
    generalize exit3 m c = W
    after_results
    rfl
  rw [h, exit3_of m c main_v15 (by decide), exit3_of m c main_v20 (by decide), exit3_of m c main_v25 (by decide),
    entry3_of m c main_v15 (by decide), entry2_of m c main_v15 (by decide), entry3_of m c main_v20 (by decide),
    show entry1 m c main_v15 = placed (exit0 m c main_v12) from placed1 _, show entry2 m c main_v20 = placed (exit1 m c main_v17) from placed2 _,
    show entry3 m c main_v25 = placed (exit2 m c main_v22) from placed3 _,
    exit0_out, exit1_out, exit2_out, exit3_out]
  rfl

end Cert.Kernel.Gen
-- ==== Proof.RefMath.lean ====
/- The reference over the reals: each layer is the sixteen taps of its transposed convolution. -/
module

public import proofs.«01_k».proof.Proof.Gen.ReferenceIdeal.Run
public import proofs.«01_k».proof.Proof.Spec

@[expose] public section

set_option maxRecDepth 65536

noncomputable section

namespace Cert.ReferenceIdeal.Gen

open Idealize.ShloMosaic Idealize.ShloMosaic.TcCoe Idealize.ShloMosaic.StableHlo
open Idealize.SL.Sem
open Cert.Spec Cert.ReferenceIdeal.Value

variable {F : FTy → Type} [FloatOps F]

/-- The sixteen taps in the order in which the reference adds them. -/
def taps : List (Fin 4 × Fin 4) := [(0, 0), (0, 1), (0, 2), (0, 3), (1, 0), (1, 1), (1, 2), (1, 3), (2, 0), (2, 1), (2, 2), (2, 3), (3, 0), (3, 1), (3, 2), (3, 3)]

/-! ## The first layer -/

/-- Each tap's window lies within the dilated images. -/
theorem image1_slices : ∀ a b : Fin 4, S128x512x31x31.Slices ![0, 0, a.val, b.val] S128x512x28x28 := by decide
/-- Each tap's weights lie within the kernel. -/
theorem weight1_slices : ∀ a b : Fin 4, S256x512x4x4.Slices ![0, 0, a.val, b.val] S256x512x1x1 := by decide

/-- The first layer's tap: a window of the dilated images, every channel weighed. -/
def tap1 (x : FVec F S128x512x31x31 .f32) (w : FVec F S256x512x4x4 .f32) (t : Fin 4 × Fin 4) : FVec F S128x256x28x28 .f32 :=
  transpose S128x256x28x28 [1, 0, 2, 3] (Host.dotGeneral dot_S256x512_S128x512x28x28_S256x128x28x28_1_1_0_023_n_n none
    (shapeCast S256x512 (extractStridedSlice S256x512x1x1 ![0, 0, t.1.val, t.2.val] w (weight1_slices t.1 t.2)) shapeCasts_S256x512x1x1_S256x512)
    (extractStridedSlice S128x512x28x28 ![0, 0, t.1.val, t.2.val] x (image1_slices t.1 t.2))) transposes_S256x128x28x28_S128x256x28x28_1_0_2_3

/-- The first layer's images dilated by the stride. -/
def dilate1 (x : FVec F S128x512x14x14 .f32) : FVec F S128x512x31x31 .f32 :=
  pad S128x512x31x31 ![0, 0, 2, 2] ![0, 0, 2, 2] ![0, 0, 1, 1] x (constant S_ .f32 0x00000000#32) pads_S128x512x14x14_S128x512x31x31_000_000_221_221 h_S_

/-- The first layer's weights, each kernel turned by half a turn, the output channel first. -/
def turn1 (w : FVec F S512x256x4x4 .f32) : FVec F S256x512x4x4 .f32 :=
  transpose S256x512x4x4 [1, 0, 2, 3] (Host.reverse [2, 3] w) transposes_S512x256x4x4_S256x512x4x4_1_0_2_3

/-- The first layer: its sixteen taps added from zero, and the bias. -/
def layer1 (x : FVec F S128x512x14x14 .f32) (w : FVec F S512x256x4x4 .f32) (b : FVec F S256 .f32) : FVec F S128x256x28x28 .f32 :=
  addf (taps.foldl (fun y t => addf y (tap1 (dilate1 x) (turn1 w) t))
      (broadcastInDim S128x256x28x28 ![] bcast_S_S128x256x28x28 (constant S_ .f32 0x00000000#32)))
    (broadcastInDim S128x256x28x28 ![0, 1, 2, 3] bcast_S1x256x1x1_S128x256x28x28_0_1_2_3 (broadcastInDim S1x256x1x1 ![1] bcast_S256_S1x256x1x1_1 b))

/-- The dilated images at an index: an input pixel at every other place, zero elsewhere. -/
theorem dilate1_apply (x : FVec Ideal S128x512x14x14 .f32) (n : Fin 128) (c : Fin 512) (q p : Fin 31) :
    dilate1 x (ix4 n c q p) = dilated 14 (fun r s => x (ix4 n c r s)) q.val p.val := by
  pointwise [dilate1]
  unfold dilated bordered
  split_ifs <;> first | rfl | (exfalso; omega) | skip
  exact congrArg x (congrArg₂ (ix4 n c) (Fin.ext (by simp only; omega)) (Fin.ext (by simp only; omega)))

/-- The turned weights at an index. -/
theorem turn1_apply (w : FVec Ideal S512x256x4x4 .f32) (o : Fin 256) (c : Fin 512) (a b : Fin 4) :
    turn1 w (ix4 o c a b) = w (ix4 c o a.rev b.rev) := by
  pointwise [turn1]
  rfl

/-- The first layer's tap at an output pixel. -/
theorem tap1_apply (x : FVec Ideal S128x512x14x14 .f32) (w : FVec Ideal S512x256x4x4 .f32) (t : Fin 4 × Fin 4) (n : Fin 128) (o : Fin 256) (i j : Fin 28) :
    tap1 (dilate1 x) (turn1 w) t (ix4 n o i j)
      = windowTap (fun c r s => x (ix4 n c r s)) (fun c a b => w (ix4 c o a b)) i.val j.val t.1 t.2 := by
  generalize hX : dilate1 x = X
  generalize hW : turn1 w = W
  pointwise [tap1]
  subst hX hW
  unfold windowTap
  refine Finset.sum_congr rfl fun k _ => ?_
  rw [dilate1_apply, turn1_apply, mul_comm]
  congr 2 <;> exact Nat.add_comm _ _

/-- The first layer at an output pixel. -/
theorem layer1_apply (x : FVec Ideal S128x512x14x14 .f32) (w : FVec Ideal S512x256x4x4 .f32) (b : FVec Ideal S256 .f32) (n : Fin 128) (o : Fin 256) (i j : Fin 28) :
    layer1 x w b (ix4 n o i j) = layer (fun c r s => x (ix4 n c r s)) (fun c a b => w (ix4 c o a b)) (b (ix1 o)) i.val j.val := by
  have h := fun t => tap1_apply x w t n o i j
  unfold layer1 taps
  simp only [List.foldl]
  generalize dilate1 x = X at h ⊢
  generalize turn1 w = W at h ⊢
  pointwise
  simp only [h]
  rw [sum_sixteen (fun a c => windowTap _ _ i.val j.val a c)]
  exact layer_eq_windowTaps _ _ _ _ _

/-! ## The second layer -/

/-- Each tap's window lies within the dilated images. -/
theorem image2_slices : ∀ a b : Fin 4, S128x256x59x59.Slices ![0, 0, a.val, b.val] S128x256x56x56 := by decide
/-- Each tap's weights lie within the kernel. -/
theorem weight2_slices : ∀ a b : Fin 4, S17x256x4x4.Slices ![0, 0, a.val, b.val] S17x256x1x1 := by decide

/-- The second layer's tap: a window of the dilated images, every channel weighed. -/
def tap2 (x : FVec F S128x256x59x59 .f32) (w : FVec F S17x256x4x4 .f32) (t : Fin 4 × Fin 4) : FVec F S128x17x56x56 .f32 :=
  transpose S128x17x56x56 [1, 0, 2, 3] (Host.dotGeneral dot_S17x256_S128x256x56x56_S17x128x56x56_1_1_0_023_n_n none
    (shapeCast S17x256 (extractStridedSlice S17x256x1x1 ![0, 0, t.1.val, t.2.val] w (weight2_slices t.1 t.2)) shapeCasts_S17x256x1x1_S17x256)
    (extractStridedSlice S128x256x56x56 ![0, 0, t.1.val, t.2.val] x (image2_slices t.1 t.2))) transposes_S17x128x56x56_S128x17x56x56_1_0_2_3

/-- The second layer's images dilated by the stride. -/
def dilate2 (x : FVec F S128x256x28x28 .f32) : FVec F S128x256x59x59 .f32 :=
  pad S128x256x59x59 ![0, 0, 2, 2] ![0, 0, 2, 2] ![0, 0, 1, 1] x (constant S_ .f32 0x00000000#32) pads_S128x256x28x28_S128x256x59x59_000_000_221_221 h_S_

/-- The second layer's weights, each kernel turned by half a turn, the output channel first. -/
def turn2 (w : FVec F S256x17x4x4 .f32) : FVec F S17x256x4x4 .f32 :=
  transpose S17x256x4x4 [1, 0, 2, 3] (Host.reverse [2, 3] w) transposes_S256x17x4x4_S17x256x4x4_1_0_2_3

/-- The second layer: its sixteen taps added from zero, and the bias. -/
def layer2 (x : FVec F S128x256x28x28 .f32) (w : FVec F S256x17x4x4 .f32) (b : FVec F S17 .f32) : FVec F S128x17x56x56 .f32 :=
  addf (taps.foldl (fun y t => addf y (tap2 (dilate2 x) (turn2 w) t))
      (broadcastInDim S128x17x56x56 ![] bcast_S_S128x17x56x56 (constant S_ .f32 0x00000000#32)))
    (broadcastInDim S128x17x56x56 ![0, 1, 2, 3] bcast_S1x17x1x1_S128x17x56x56_0_1_2_3 (broadcastInDim S1x17x1x1 ![1] bcast_S17_S1x17x1x1_1 b))

/-- The dilated images at an index: an input pixel at every other place, zero elsewhere. -/
theorem dilate2_apply (x : FVec Ideal S128x256x28x28 .f32) (n : Fin 128) (c : Fin 256) (q p : Fin 59) :
    dilate2 x (ix4 n c q p) = dilated 28 (fun r s => x (ix4 n c r s)) q.val p.val := by
  pointwise [dilate2]
  unfold dilated bordered
  split_ifs <;> first | rfl | (exfalso; omega) | skip
  exact congrArg x (congrArg₂ (ix4 n c) (Fin.ext (by simp only; omega)) (Fin.ext (by simp only; omega)))

/-- The turned weights at an index. -/
theorem turn2_apply (w : FVec Ideal S256x17x4x4 .f32) (o : Fin 17) (c : Fin 256) (a b : Fin 4) :
    turn2 w (ix4 o c a b) = w (ix4 c o a.rev b.rev) := by
  pointwise [turn2]
  rfl

/-- The second layer's tap at an output pixel. -/
theorem tap2_apply (x : FVec Ideal S128x256x28x28 .f32) (w : FVec Ideal S256x17x4x4 .f32) (t : Fin 4 × Fin 4) (n : Fin 128) (o : Fin 17) (i j : Fin 56) :
    tap2 (dilate2 x) (turn2 w) t (ix4 n o i j)
      = windowTap (fun c r s => x (ix4 n c r s)) (fun c a b => w (ix4 c o a b)) i.val j.val t.1 t.2 := by
  generalize hX : dilate2 x = X
  generalize hW : turn2 w = W
  pointwise [tap2]
  subst hX hW
  unfold windowTap
  refine Finset.sum_congr rfl fun k _ => ?_
  rw [dilate2_apply, turn2_apply, mul_comm]
  congr 2 <;> exact Nat.add_comm _ _

/-- The second layer at an output pixel. -/
theorem layer2_apply (x : FVec Ideal S128x256x28x28 .f32) (w : FVec Ideal S256x17x4x4 .f32) (b : FVec Ideal S17 .f32) (n : Fin 128) (o : Fin 17) (i j : Fin 56) :
    layer2 x w b (ix4 n o i j) = layer (fun c r s => x (ix4 n c r s)) (fun c a b => w (ix4 c o a b)) (b (ix1 o)) i.val j.val := by
  have h := fun t => tap2_apply x w t n o i j
  unfold layer2 taps
  simp only [List.foldl]
  generalize dilate2 x = X at h ⊢
  generalize turn2 w = W at h ⊢
  pointwise
  simp only [h]
  rw [sum_sixteen (fun a c => windowTap _ _ i.val j.val a c)]
  exact layer_eq_windowTaps _ _ _ _ _

/-! ## The result -/

/-- Both layers. -/
def bothLayers (x : FVec F S128x512x14x14 .f32) (w1 : FVec F S512x256x4x4 .f32) (b1 : FVec F S256 .f32) (w2 : FVec F S256x17x4x4 .f32)
    (b2 : FVec F S17 .f32) : FVec F S128x17x56x56 .f32 :=
  layer2 (layer1 x w1 b1) w2 b2

/-- The reference's result at an index is `twoLayers` of the image. -/
theorem bothLayers_apply (x : FVec Ideal S128x512x14x14 .f32) (w1 : FVec Ideal S512x256x4x4 .f32) (b1 : FVec Ideal S256 .f32)
    (w2 : FVec Ideal S256x17x4x4 .f32) (b2 : FVec Ideal S17 .f32) (n : Fin 128) (o : Fin 17) (i j : Fin 56) :
    bothLayers x w1 b1 w2 b2 (ix4 n o i j)
      = twoLayers (fun c r s => x (ix4 n c r s)) (fun c k a b => w1 (ix4 c k a b)) (fun k => b1 (ix1 k)) (fun k o a b => w2 (ix4 k o a b))
          (fun o => b2 (ix1 o)) o i.val j.val := by
  unfold bothLayers twoLayers
  rw [layer2_apply]
  congr 1
  funext k r s
  exact layer1_apply x w1 b1 n k r s

/-- The reference's dilated hidden images. -/
theorem res_main_v105_eq (V0 : Valuation τ sig (Elt F)) :
    res_main_v105 V0 = dilate2 (layer1 (V0 (Proc.devRef .tc main_arg0)) (V0 (Proc.devRef .tc main_arg1)) (V0 (Proc.devRef .tc main_arg2))) := rfl

/-- The reference runs to both layers of its arguments, which it leaves as they are. -/
theorem run_bothLayers (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v205) = bothLayers (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rw [res_main_v105_eq]; rfl), (h c).2⟩) (run m ρ)

end Cert.ReferenceIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Final
public import proofs.«01_k».proof.Proof.RefMath
public import Idealize.ShloMosaic.Lib.Quiescent
public import Idealize.ShloMosaic.Lib.Tactic
public import Idealize.ShloMosaic.Adequacy
public import Idealize.ShloMosaic.Init

@[expose] public section

set_option maxRecDepth 65536

noncomputable section

namespace Cert.Proof

open Idealize.ShloMosaic Idealize.SL.Sem
open Cert.Kernel.Gen (run_result final final_result wholeResult wholeResult_apply)
open Cert.ReferenceIdeal.Gen (run_bothLayers bothLayers bothLayers_apply)
open Cert.Kernel.Gen Cert.KernelIdeal.Gen Cert.ReferenceIdeal.Gen

/-! ## The kernel's two printings are one program -/

/-- The two printings have the same main. -/
theorem main_same : Cert.KernelIdeal.main (F := Ideal) = Cert.Kernel.main (F := Ideal) := by
  sl_kernel_rfl

/-- The two printings have the same functions. -/
theorem defs_same : Cert.KernelIdeal.defs (F := Ideal) = Cert.Kernel.defs (F := Ideal) := by
  sl_kernel_rfl

/-- The kernel over the reals: it runs, leaves its arguments, its result is `wholeResult` of them, and its semaphores end at zero. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        (r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_v31)
          = wholeResult (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4)))
      ∧ r.2.sem = fun _ => 0) := by
  rw [main_same, defs_same]
  exact (θ_run _ _ _).mono (fun r h => ⟨fun c => ⟨(h.1 c).1, (h.1 c).2.trans (final_result m c)⟩, h.2⟩) (run_result (F := Ideal) m g)

/-! ## The frames -/

/-- The kernel as printed runs, leaves its arguments, and its semaphores end at zero. -/
theorem frame_kernel : Cert.quiescent_Kernel := fun m g _ =>
  (θ_run _ _ _).mono (fun _ h => ⟨fun c => (h.1 c).1, h.2⟩) (run_result (F := Bits) m g)

/-- So does the kernel over the reals. -/
theorem frame_ideal : Cert.quiescent_KernelIdeal := fun m g _ =>
  (θ_run _ _ _).mono (fun _ h => ⟨fun c => (h.1 c).1, h.2⟩) (run_ideal m g)

/-- So does the reference over the reals; it has no semaphore. -/
theorem frame_reference : Cert.quiescent_ReferenceIdeal := fun m g _ =>
  (θ_run _ _ _).mono (fun r h => ⟨fun c => (h c).2, sem_eq_zero_of_no_sems rfl r.2⟩) (run_bothLayers m g)

/-! ## The results -/

/-- Over the reals the kernel and the reference compute the same array. -/
theorem results_same (x : FVec Ideal Cert.Kernel.S128x512x14x14 .f32) (w1 : FVec Ideal Cert.Kernel.S512x256x4x4 .f32)
    (b1 : FVec Ideal Cert.Kernel.S256 .f32) (w2 : FVec Ideal Cert.Kernel.S256x17x4x4 .f32) (b2 : FVec Ideal Cert.Kernel.S17 .f32) :
    bothLayers (F := Ideal) x w1 b1 w2 b2 = wholeResult (F := Ideal) x w1 b1 w2 b2 := by
  funext y
  rw [eq_ix4 y]
  exact (bothLayers_apply x w1 b1 w2 b2 (y 0) (y 1) (y 2) (y 3)).trans (wholeResult_apply x w1 b1 w2 b2 (y 0) (y 1) (y 2) (y 3)).symm

/-- From memories agreeing on the arguments the kernel and the reference end with equal results. -/
theorem values : Cert.algebraic_KernelIdeal_ReferenceIdeal := fun m g m' g' _ hm =>
  ⟨fun c => wholeResult (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run _ _ _).mono (fun _ h c => ⟨(h.1 c).2, (h.1 c).1⟩) (run_ideal m g),
    (θ_run _ _ _).mono (fun _ h c => ⟨by
      obtain ⟨e0, e1, e2, e3, e4⟩ := hm c
      refine (h c).1.trans ?_
      rw [e0, e1, e2, e3, e4]
      exact results_same _ _ _ _ _, (h c).2⟩) (run_bothLayers m' g')⟩

/-- Everything claimed. -/
theorem claim : Cert.Claim :=
  ⟨Cert.Kernel.Gen.facts, Cert.KernelIdeal.Gen.facts, Cert.ReferenceIdeal.Gen.facts, frame_kernel, frame_ideal, frame_reference, trivial, values⟩

end Cert.Proof

end
